-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S2x300x64x64 : Shape := ⟨4, ![2, 300, 64, 64]⟩
abbrev S2x64x5 : Shape := ⟨3, ![2, 64, 5]⟩
abbrev S64x64 : Shape := ⟨2, ![64, 64]⟩
abbrev S64 : Shape := ⟨1, ![64]⟩
abbrev S256x64 : Shape := ⟨2, ![256, 64]⟩
abbrev S256 : Shape := ⟨1, ![256]⟩
abbrev S64x256 : Shape := ⟨2, ![64, 256]⟩
abbrev S70x64 : Shape := ⟨2, ![70, 64]⟩
abbrev S30x64 : Shape := ⟨2, ![30, 64]⟩
abbrev S10x64 : Shape := ⟨2, ![10, 64]⟩
abbrev S40x64 : Shape := ⟨2, ![40, 64]⟩
abbrev S400x64 : Shape := ⟨2, ![400, 64]⟩
abbrev S_ : Shape := ⟨0, ![]⟩

class Facts : Prop where
  bcast_S_S2x64x5 : S_.BroadcastsInDim S2x64x5 (![] : Fin 0 → Fin S2x64x5.rank)
  reducesTo_S2x64x5_S_d0_1_2 : S2x64x5.ReducesTo [0, 1, 2] S_
  h_S_ : 0 < S_.numel
  bcast_S_S2x300x64x64 : S_.BroadcastsInDim S2x300x64x64 (![] : Fin 0 → Fin S2x300x64x64.rank)
  reducesTo_S2x300x64x64_S_d0_1_2_3 : S2x300x64x64.ReducesTo [0, 1, 2, 3] S_
  bcast_S_S64x64 : S_.BroadcastsInDim S64x64 (![] : Fin 0 → Fin S64x64.rank)
  reducesTo_S64x64_S_d0_1 : S64x64.ReducesTo [0, 1] S_
  bcast_S_S70x64 : S_.BroadcastsInDim S70x64 (![] : Fin 0 → Fin S70x64.rank)
  reducesTo_S70x64_S_d0_1 : S70x64.ReducesTo [0, 1] S_
  bcast_S_S30x64 : S_.BroadcastsInDim S30x64 (![] : Fin 0 → Fin S30x64.rank)
  reducesTo_S30x64_S_d0_1 : S30x64.ReducesTo [0, 1] S_
  bcast_S_S10x64 : S_.BroadcastsInDim S10x64 (![] : Fin 0 → Fin S10x64.rank)
  reducesTo_S10x64_S_d0_1 : S10x64.ReducesTo [0, 1] S_
  bcast_S_S40x64 : S_.BroadcastsInDim S40x64 (![] : Fin 0 → Fin S40x64.rank)
  reducesTo_S40x64_S_d0_1 : S40x64.ReducesTo [0, 1] S_
  bcast_S_S400x64 : S_.BroadcastsInDim S400x64 (![] : Fin 0 → Fin S400x64.rank)
  reducesTo_S400x64_S_d0_1 : S400x64.ReducesTo [0, 1] S_

variable [Facts]

def fn_part2 {F : FTy → Type} [FloatOps F] (main_arg18 : FVec F S40x64 .f32) (main_arg19 : FVec F S400x64 .f32) (main_v30 : IVec S_ 1) (main_v33 : IVec S10x64 1) : IVec S_ 1 :=
  let main_c_12 : IVec S_ 1 := constantI S_ 1 1#1
  let main_v34 : IVec S_ 1 := (fun x v => Host.reduce IntOp.andi x v reducesTo_S10x64_S_d0_1 h_S_) main_v33 main_c_12
  let main_v35 : IVec S_ 1 := andi main_v30 main_v34
  let main_v36 : FVec F S40x64 .f32 := Host.absf main_arg18
  let main_cst_13 : FVec F S_ .f32 := constant S_ .f32 0x7F800000#32
  let main_v37 : FVec F S40x64 .f32 := broadcastInDim S40x64 ![] bcast_S_S40x64 main_cst_13
  let main_v38 : IVec S40x64 1 := cmpf .olt main_v36 main_v37
  let main_c_14 : IVec S_ 1 := constantI S_ 1 1#1
  let main_v39 : IVec S_ 1 := (fun x v => Host.reduce IntOp.andi x v reducesTo_S40x64_S_d0_1 h_S_) main_v38 main_c_14
  let main_v40 : IVec S_ 1 := andi main_v35 main_v39
  let main_v41 : FVec F S400x64 .f32 := Host.absf main_arg19
  let main_cst_15 : FVec F S_ .f32 := constant S_ .f32 0x7F800000#32
  let main_v42 : FVec F S400x64 .f32 := broadcastInDim S400x64 ![] bcast_S_S400x64 main_cst_15
  let main_v43 : IVec S400x64 1 := cmpf .olt main_v41 main_v42
  let main_c_16 : IVec S_ 1 := constantI S_ 1 1#1
  let main_v44 : IVec S_ 1 := (fun x v => Host.reduce IntOp.andi x v reducesTo_S400x64_S_d0_1 h_S_) main_v43 main_c_16
  let main_v45 : IVec S_ 1 := andi main_v40 main_v44
  main_v45

def fn_part1 {F : FTy → Type} [FloatOps F] (main_arg15 : FVec F S70x64 .f32) (main_arg16 : FVec F S30x64 .f32) (main_arg17 : FVec F S10x64 .f32) (main_arg18 : FVec F S40x64 .f32) (main_arg19 : FVec F S400x64 .f32) (main_v15 : IVec S_ 1) (main_v16 : FVec F S64x64 .f32) : IVec S_ 1 :=
  let main_cst_5 : FVec F S_ .f32 := constant S_ .f32 0x7F800000#32
  let main_v17 : FVec F S64x64 .f32 := broadcastInDim S64x64 ![] bcast_S_S64x64 main_cst_5
  let main_v18 : IVec S64x64 1 := cmpf .olt main_v16 main_v17
  let main_c_6 : IVec S_ 1 := constantI S_ 1 1#1
  let main_v19 : IVec S_ 1 := (fun x v => Host.reduce IntOp.andi x v reducesTo_S64x64_S_d0_1 h_S_) main_v18 main_c_6
  let main_v20 : IVec S_ 1 := andi main_v15 main_v19
  let main_v21 : FVec F S70x64 .f32 := Host.absf main_arg15
  let main_cst_7 : FVec F S_ .f32 := constant S_ .f32 0x7F800000#32
  let main_v22 : FVec F S70x64 .f32 := broadcastInDim S70x64 ![] bcast_S_S70x64 main_cst_7
  let main_v23 : IVec S70x64 1 := cmpf .olt main_v21 main_v22
  let main_c_8 : IVec S_ 1 := constantI S_ 1 1#1
  let main_v24 : IVec S_ 1 := (fun x v => Host.reduce IntOp.andi x v reducesTo_S70x64_S_d0_1 h_S_) main_v23 main_c_8
  let main_v25 : IVec S_ 1 := andi main_v20 main_v24
  let main_v26 : FVec F S30x64 .f32 := Host.absf main_arg16
  let main_cst_9 : FVec F S_ .f32 := constant S_ .f32 0x7F800000#32
  let main_v27 : FVec F S30x64 .f32 := broadcastInDim S30x64 ![] bcast_S_S30x64 main_cst_9
  let main_v28 : IVec S30x64 1 := cmpf .olt main_v26 main_v27
  let main_c_10 : IVec S_ 1 := constantI S_ 1 1#1
  let main_v29 : IVec S_ 1 := (fun x v => Host.reduce IntOp.andi x v reducesTo_S30x64_S_d0_1 h_S_) main_v28 main_c_10
  let main_v30 : IVec S_ 1 := andi main_v25 main_v29
  let main_v31 : FVec F S10x64 .f32 := Host.absf main_arg17
  let main_cst_11 : FVec F S_ .f32 := constant S_ .f32 0x7F800000#32
  let main_v32 : FVec F S10x64 .f32 := broadcastInDim S10x64 ![] bcast_S_S10x64 main_cst_11
  let main_v33 : IVec S10x64 1 := cmpf .olt main_v31 main_v32
  fn_part2 (F := F) main_arg18 main_arg19 main_v30 main_v33

def fn {F : FTy → Type} [FloatOps F] (main_arg0 : FVec F S2x300x64x64 .f32) (main_arg1 : IVec S2x64x5 32) (main_arg2 : FVec F S64x64 .f32) (main_arg3 : FVec F S64x64 .f32) (main_arg4 : FVec F S64x64 .f32) (main_arg5 : FVec F S64x64 .f32) (main_arg6 : FVec F S64 .f32) (main_arg7 : FVec F S64 .f32) (main_arg8 : FVec F S64 .f32) (main_arg9 : FVec F S64 .f32) (main_arg10 : FVec F S64 .f32) (main_arg11 : FVec F S256x64 .f32) (main_arg12 : FVec F S256 .f32) (main_arg13 : FVec F S64x256 .f32) (main_arg14 : FVec F S64 .f32) (main_arg15 : FVec F S70x64 .f32) (main_arg16 : FVec F S30x64 .f32) (main_arg17 : FVec F S10x64 .f32) (main_arg18 : FVec F S40x64 .f32) (main_arg19 : FVec F S400x64 .f32) : IVec S_ 1 :=
  let main_c : IVec S_ 32 := constantI S_ 32 0#32
  let main_v0 : IVec S2x64x5 32 := broadcastInDim S2x64x5 ![] bcast_S_S2x64x5 main_c
  let main_v1 : IVec S2x64x5 1 := cmpi .sge main_arg1 main_v0
  let main_c_0 : IVec S_ 32 := constantI S_ 32 10#32
  let main_v2 : IVec S2x64x5 32 := broadcastInDim S2x64x5 ![] bcast_S_S2x64x5 main_c_0
  let main_v3 : IVec S2x64x5 1 := cmpi .slt main_arg1 main_v2
  let main_v4 : IVec S2x64x5 1 := andi main_v1 main_v3
  let main_c_1 : IVec S_ 1 := constantI S_ 1 1#1
  let main_v5 : IVec S_ 1 := (fun x v => Host.reduce IntOp.andi x v reducesTo_S2x64x5_S_d0_1_2 h_S_) main_v4 main_c_1
  let main_v6 : FVec F S2x300x64x64 .f32 := Host.absf main_arg0
  let main_cst : FVec F S_ .f32 := constant S_ .f32 0x7F800000#32
  let main_v7 : FVec F S2x300x64x64 .f32 := broadcastInDim S2x300x64x64 ![] bcast_S_S2x300x64x64 main_cst
  let main_v8 : IVec S2x300x64x64 1 := cmpf .olt main_v6 main_v7
  let main_c_2 : IVec S_ 1 := constantI S_ 1 1#1
  let main_v9 : IVec S_ 1 := (fun x v => Host.reduce IntOp.andi x v reducesTo_S2x300x64x64_S_d0_1_2_3 h_S_) main_v8 main_c_2
  let main_v10 : IVec S_ 1 := andi main_v5 main_v9
  let main_v11 : FVec F S64x64 .f32 := Host.absf main_arg2
  let main_cst_3 : FVec F S_ .f32 := constant S_ .f32 0x7F800000#32
  let main_v12 : FVec F S64x64 .f32 := broadcastInDim S64x64 ![] bcast_S_S64x64 main_cst_3
  let main_v13 : IVec S64x64 1 := cmpf .olt main_v11 main_v12
  let main_c_4 : IVec S_ 1 := constantI S_ 1 1#1
  let main_v14 : IVec S_ 1 := (fun x v => Host.reduce IntOp.andi x v reducesTo_S64x64_S_d0_1 h_S_) main_v13 main_c_4
  let main_v15 : IVec S_ 1 := andi main_v10 main_v14
  let main_v16 : FVec F S64x64 .f32 := Host.absf main_arg3
  fn_part1 (F := F) main_arg15 main_arg16 main_arg17 main_arg18 main_arg19 main_v15 main_v16
-- ==== Kernel.lean ====
abbrev S2x300x64x64 : Shape := ⟨4, ![2, 300, 64, 64]⟩
abbrev S2x64x5 : Shape := ⟨3, ![2, 64, 5]⟩
abbrev S64x64 : Shape := ⟨2, ![64, 64]⟩
abbrev S64 : Shape := ⟨1, ![64]⟩
abbrev S256x64 : Shape := ⟨2, ![256, 64]⟩
abbrev S256 : Shape := ⟨1, ![256]⟩
abbrev S64x256 : Shape := ⟨2, ![64, 256]⟩
abbrev S70x64 : Shape := ⟨2, ![70, 64]⟩
abbrev S30x64 : Shape := ⟨2, ![30, 64]⟩
abbrev S10x64 : Shape := ⟨2, ![10, 64]⟩
abbrev S40x64 : Shape := ⟨2, ![40, 64]⟩
abbrev S400x64 : Shape := ⟨2, ![400, 64]⟩
abbrev S64x25 : Shape := ⟨2, ![64, 25]⟩
abbrev S64x1x25 : Shape := ⟨3, ![64, 1, 25]⟩
abbrev S64x64x25 : Shape := ⟨3, ![64, 64, 25]⟩
abbrev S_ : Shape := ⟨0, ![]⟩
abbrev S6x64x6x64 : Shape := ⟨4, ![6, 64, 6, 64]⟩
abbrev S384x384 : Shape := ⟨2, ![384, 384]⟩
abbrev S1x64x1x64 : Shape := ⟨4, ![1, 64, 1, 64]⟩
abbrev S4x4x16 : Shape := ⟨3, ![4, 4, 16]⟩
abbrev S4x64 : Shape := ⟨2, ![4, 64]⟩
abbrev S1x64x64 : Shape := ⟨3, ![1, 64, 64]⟩
abbrev S6x64x64 : Shape := ⟨3, ![6, 64, 64]⟩
abbrev S384x64 : Shape := ⟨2, ![384, 64]⟩
abbrev S2x384x64 : Shape := ⟨3, ![2, 384, 64]⟩
abbrev S1x64x5 : Shape := ⟨3, ![1, 64, 5]⟩
abbrev S1x384x64 : Shape := ⟨3, ![1, 384, 64]⟩
abbrev S64x5 : Shape := ⟨2, ![64, 5]⟩
abbrev S64x1 : Shape := ⟨2, ![64, 1]⟩
abbrev S64x70 : Shape := ⟨2, ![64, 70]⟩
abbrev S64x30 : Shape := ⟨2, ![64, 30]⟩
abbrev S64x10 : Shape := ⟨2, ![64, 10]⟩
abbrev S64x40 : Shape := ⟨2, ![64, 40]⟩
abbrev S64x400 : Shape := ⟨2, ![64, 400]⟩
abbrev S38400x64 : Shape := ⟨2, ![38400, 64]⟩
abbrev S1x64 : Shape := ⟨2, ![1, 64]⟩
abbrev S1x256 : Shape := ⟨2, ![1, 256]⟩
abbrev S384 : Shape := ⟨1, ![384]⟩
abbrev S384x1 : Shape := ⟨2, ![384, 1]⟩
abbrev S1x384 : Shape := ⟨2, ![1, 384]⟩
abbrev S384x256 : Shape := ⟨2, ![384, 256]⟩

abbrev nBuf : Space → Nat
  | .hbm => 91
  | .vmem => 35
  | .smem => 0
  | _ => 0

abbrev bufTy : (tb : Table) → Fin (tcTables nBuf tb) → BufTy
  | .hbm, ⟨0, _⟩ => ⟨S2x300x64x64, .f32⟩
  | .hbm, ⟨1, _⟩ => ⟨S2x64x5, .i32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S256x64, .f32⟩
  | .hbm, ⟨12, _⟩ => ⟨S256, .f32⟩
  | .hbm, ⟨13, _⟩ => ⟨S64x256, .f32⟩
  | .hbm, ⟨14, _⟩ => ⟨S64, .f32⟩
  | .hbm, ⟨15, _⟩ => ⟨S70x64, .f32⟩
  | .hbm, ⟨16, _⟩ => ⟨S30x64, .f32⟩
  | .hbm, ⟨17, _⟩ => ⟨S10x64, .f32⟩
  | .hbm, ⟨18, _⟩ => ⟨S40x64, .f32⟩
  | .hbm, ⟨19, _⟩ => ⟨S400x64, .f32⟩
  | .hbm, ⟨20, _⟩ => ⟨S64x25, .i32⟩
  | .hbm, ⟨21, _⟩ => ⟨S64x64, .f32⟩
  | .hbm, ⟨22, _⟩ => ⟨S64x1x25, .i32⟩
  | .hbm, ⟨23, _⟩ => ⟨S64x64x25, .i32⟩
  | .hbm, ⟨24, _⟩ => ⟨S64x64x25, .i32⟩
  | .hbm, ⟨25, _⟩ => ⟨S64x64x25, .i1⟩
  | .hbm, ⟨26, _⟩ => ⟨S_, .f32⟩
  | .hbm, ⟨27, _⟩ => ⟨S_, .f32⟩
  | .hbm, ⟨28, _⟩ => ⟨S64x64x25, .f32⟩
  | .hbm, ⟨29, _⟩ => ⟨S64x64x25, .f32⟩
  | .hbm, ⟨30, _⟩ => ⟨S64x64x25, .f32⟩
  | .hbm, ⟨31, _⟩ => ⟨S64x64x25, .f32⟩
  | .hbm, ⟨32, _⟩ => ⟨S_, .f32⟩
  | .hbm, ⟨33, _⟩ => ⟨S64x64, .f32⟩
  | .hbm, ⟨34, _⟩ => ⟨S6x64x6x64, .i32⟩
  | .hbm, ⟨35, _⟩ => ⟨S6x64x6x64, .i32⟩
  | .hbm, ⟨36, _⟩ => ⟨S6x64x6x64, .i1⟩
  | .hbm, ⟨37, _⟩ => ⟨S384x384, .i1⟩
  | .hbm, ⟨38, _⟩ => ⟨S384x384, .i32⟩
  | .hbm, ⟨39, _⟩ => ⟨S384x384, .i32⟩
  | .hbm, ⟨40, _⟩ => ⟨S_, .f32⟩
  | .hbm, ⟨41, _⟩ => ⟨S_, .f32⟩
  | .hbm, ⟨42, _⟩ => ⟨S384x384, .f32⟩
  | .hbm, ⟨43, _⟩ => ⟨S384x384, .f32⟩
  | .hbm, ⟨44, _⟩ => ⟨S384x384, .f32⟩
  | .hbm, ⟨45, _⟩ => ⟨S1x64x1x64, .f32⟩
  | .hbm, ⟨46, _⟩ => ⟨S6x64x6x64, .f32⟩
  | .hbm, ⟨47, _⟩ => ⟨S384x384, .f32⟩
  | .hbm, ⟨48, _⟩ => ⟨S_, .f32⟩
  | .hbm, ⟨49, _⟩ => ⟨S_, .f32⟩
  | .hbm, ⟨50, _⟩ => ⟨S384x384, .f32⟩
  | .hbm, ⟨51, _⟩ => ⟨S384x384, .f32⟩
  | .hbm, ⟨52, _⟩ => ⟨S_, .f32⟩
  | .hbm, ⟨53, _⟩ => ⟨S384x384, .f32⟩
  | .hbm, ⟨54, _⟩ => ⟨S384x384, .f32⟩
  | .hbm, ⟨55, _⟩ => ⟨S384x384, .i1⟩
  | .hbm, ⟨56, _⟩ => ⟨S_, .f32⟩
  | .hbm, ⟨57, _⟩ => ⟨S_, .f32⟩
  | .hbm, ⟨58, _⟩ => ⟨S384x384, .f32⟩
  | .hbm, ⟨59, _⟩ => ⟨S384x384, .f32⟩
  | .hbm, ⟨60, _⟩ => ⟨S384x384, .f32⟩
  | .hbm, ⟨61, _⟩ => ⟨S384x384, .f32⟩
  | .hbm, ⟨62, _⟩ => ⟨S384x384, .i1⟩
  | .hbm, ⟨63, _⟩ => ⟨S_, .f32⟩
  | .hbm, ⟨64, _⟩ => ⟨S_, .f32⟩
  | .hbm, ⟨65, _⟩ => ⟨S384x384, .f32⟩
  | .hbm, ⟨66, _⟩ => ⟨S384x384, .f32⟩
  | .hbm, ⟨67, _⟩ => ⟨S384x384, .f32⟩
  | .hbm, ⟨68, _⟩ => ⟨S4x4x16, .i32⟩
  | .hbm, ⟨69, _⟩ => ⟨S4x4x16, .i32⟩
  | .hbm, ⟨70, _⟩ => ⟨S4x4x16, .i1⟩
  | .hbm, ⟨71, _⟩ => ⟨S_, .f32⟩
  | .hbm, ⟨72, _⟩ => ⟨S_, .f32⟩
  | .hbm, ⟨73, _⟩ => ⟨S4x4x16, .f32⟩
  | .hbm, ⟨74, _⟩ => ⟨S4x4x16, .f32⟩
  | .hbm, ⟨75, _⟩ => ⟨S4x4x16, .f32⟩
  | .hbm, ⟨76, _⟩ => ⟨S4x64, .f32⟩
  | .hbm, ⟨77, _⟩ => ⟨S1x64x64, .f32⟩
  | .hbm, ⟨78, _⟩ => ⟨S6x64x64, .f32⟩
  | .hbm, ⟨79, _⟩ => ⟨S384x64, .f32⟩
  | .hbm, ⟨80, _⟩ => ⟨S2x384x64, .f32⟩
  | .hbm, ⟨81, _⟩ => ⟨S38400x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S1x256, .f32⟩
  | .hbm, ⟨88, _⟩ => ⟨S1x64, .f32⟩
  | .hbm, ⟨89, _⟩ => ⟨S38400x64, .f32⟩
  | .hbm, ⟨90, _⟩ => ⟨S2x300x64x64, .f32⟩
  | .local _ .vmem, ⟨0, _⟩ => ⟨S1x64x5, .i32⟩
  | .local _ .vmem, ⟨1, _⟩ => ⟨S1x64x5, .i32⟩
  | .local _ .vmem, ⟨2, _⟩ => ⟨S70x64, .f32⟩
  | .local _ .vmem, ⟨3, _⟩ => ⟨S30x64, .f32⟩
  | .local _ .vmem, ⟨4, _⟩ => ⟨S10x64, .f32⟩
  | .local _ .vmem, ⟨5, _⟩ => ⟨S40x64, .f32⟩
  | .local _ .vmem, ⟨6, _⟩ => ⟨S400x64, .f32⟩
  | .local _ .vmem, ⟨7, _⟩ => ⟨S1x384x64, .f32⟩
  | .local _ .vmem, ⟨8, _⟩ => ⟨S1x384x64, .f32⟩
  | .local _ .vmem, ⟨9, _⟩ => ⟨S384x64, .f32⟩
  | .local _ .vmem, ⟨10, _⟩ => ⟨S384x64, .f32⟩
  | .local _ .vmem, ⟨11, _⟩ => ⟨S1x384x64, .f32⟩
  | .local _ .vmem, ⟨12, _⟩ => ⟨S1x384x64, .f32⟩
  | .local _ .vmem, ⟨13, _⟩ => ⟨S64x64, .f32⟩
  | .local _ .vmem, ⟨14, _⟩ => ⟨S64x64, .f32⟩
  | .local _ .vmem, ⟨15, _⟩ => ⟨S64x64, .f32⟩
  | .local _ .vmem, ⟨16, _⟩ => ⟨S64x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S256x64, .f32⟩
  | .local _ .vmem, ⟨23, _⟩ => ⟨S1x256, .f32⟩
  | .local _ .vmem, ⟨24, _⟩ => ⟨S64x256, .f32⟩
  | .local _ .vmem, ⟨25, _⟩ => ⟨S1x64, .f32⟩
  | .local _ .vmem, ⟨26, _⟩ => ⟨S4x64, .f32⟩
  | .local _ .vmem, ⟨27, _⟩ => ⟨S384x384, .f32⟩
  | .local _ .vmem, ⟨28, _⟩ => ⟨S384x384, .f32⟩
  | .local _ .vmem, ⟨29, _⟩ => ⟨S384x384, .f32⟩
  | .local _ .vmem, ⟨30, _⟩ => ⟨S384x384, .f32⟩
  | .local _ .vmem, ⟨31, _⟩ => ⟨S384x384, .f32⟩
  | .local _ .vmem, ⟨32, _⟩ => ⟨S384x64, .f32⟩
  | .local _ .vmem, ⟨33, _⟩ => ⟨S384x64, .f32⟩
  | .local _ .vmem, ⟨34, _⟩ => ⟨S384x64, .f32⟩
  | _, _ => ⟨S2x300x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_0 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_v4 : Ref sig .tc := ⟨.hbm, 30, rfl⟩
abbrev main_v5 : Ref sig .tc := ⟨.hbm, 31, rfl⟩
abbrev main_cst_2 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_3 : Ref sig .tc := ⟨.hbm, 40, rfl⟩
abbrev main_cst_4 : Ref sig .tc := ⟨.hbm, 41, rfl⟩
abbrev main_call1_v0 : Ref sig .tc := ⟨.hbm, 42, rfl⟩
abbrev main_call1_v1 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_v17 : Ref sig .tc := ⟨.hbm, 51, rfl⟩
abbrev main_cst_6 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_7 : Ref sig .tc := ⟨.hbm, 56, rfl⟩
abbrev main_cst_8 : Ref sig .tc := ⟨.hbm, 57, rfl⟩
abbrev main_call3_v0 : Ref sig .tc := ⟨.hbm, 58, rfl⟩
abbrev main_call3_v1 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_9 : Ref sig .tc := ⟨.hbm, 63, rfl⟩
abbrev main_cst_10 : Ref sig .tc := ⟨.hbm, 64, rfl⟩
abbrev main_call4_v0 : Ref sig .tc := ⟨.hbm, 65, rfl⟩
abbrev main_call4_v1 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_cst_11 : Ref sig .tc := ⟨.hbm, 71, rfl⟩
abbrev main_cst_12 : Ref sig .tc := ⟨.hbm, 72, rfl⟩
abbrev main_call5_v0 : Ref sig .tc := ⟨.hbm, 73, rfl⟩
abbrev main_call5_v1 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg10_0 : Ref sig .tc := ⟨.vmem, 21, rfl⟩
abbrev cc1_stg11_0 : Ref sig .tc := ⟨.vmem, 22, rfl⟩
abbrev cc1_stg12_0 : Ref sig .tc := ⟨.vmem, 23, rfl⟩
abbrev cc1_stg13_0 : Ref sig .tc := ⟨.vmem, 24, rfl⟩
abbrev cc1_stg14_0 : Ref sig .tc := ⟨.vmem, 25, rfl⟩
abbrev cc1_stg15_0 : Ref sig .tc := ⟨.vmem, 26, rfl⟩
abbrev cc1_stg16_0 : Ref sig .tc := ⟨.vmem, 27, rfl⟩
abbrev cc1_stg17_0 : Ref sig .tc := ⟨.vmem, 28, rfl⟩
abbrev cc1_stg18_0 : Ref sig .tc := ⟨.vmem, 29, rfl⟩
abbrev cc1_stg19_0 : Ref sig .tc := ⟨.vmem, 30, rfl⟩
abbrev cc1_stg20_0 : Ref sig .tc := ⟨.vmem, 31, rfl⟩
abbrev cc1_stg21_0 : Ref sig .tc := ⟨.vmem, 32, rfl⟩
abbrev cc1_stg22_0 : Ref sig .tc := ⟨.vmem, 33, rfl⟩
abbrev cc1_stg22_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem10_0 : DmaSem sig := 21
abbrev cc1_sem11_0 : DmaSem sig := 22
abbrev cc1_sem12_0 : DmaSem sig := 23
abbrev cc1_sem13_0 : DmaSem sig := 24
abbrev cc1_sem14_0 : DmaSem sig := 25
abbrev cc1_sem15_0 : DmaSem sig := 26
abbrev cc1_sem16_0 : DmaSem sig := 27
abbrev cc1_sem17_0 : DmaSem sig := 28
abbrev cc1_sem18_0 : DmaSem sig := 29
abbrev cc1_sem19_0 : DmaSem sig := 30
abbrev cc1_sem20_0 : DmaSem sig := 31
abbrev cc1_sem21_0 : DmaSem sig := 32
abbrev cc1_sem22_0 : DmaSem sig := 33
abbrev cc1_sem22_1 : DmaSem sig := 34

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x5 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S70x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S30x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S40x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S400x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x384x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c50_i32 : BitVec 32 := 50#32
  let v0 : BitVec 32 := Scalar.divsi arg0 c50_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c50_i32 c0_i32_1
  let v7 : BitVec 32 := Scalar.extui v6
  let c0_i32_2 : BitVec 32 := 0#32
  let v8 : BitVec 1 := Scalar.cmpi .slt c50_i32 c0_i32_2
  let v9 : BitVec 32 := Scalar.extui v8
  let v10 : BitVec 32 := Scalar.subi v7 v9
  let v11 : BitVec 1 := Scalar.cmpi .ne v5 v10
  let v12 : BitVec 32 := Scalar.remsi arg0 c50_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S384x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x384x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S4x64 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S384x384 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S384x384 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S384x384 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S384x384 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S384x384 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S384x64 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 2 → Memref sig .tc .vmem S384x64 .f32 := fun | 0 => Memref.whole cc1_stg22_0 | 1 => Memref.whole cc1_stg22_1 | ⟨_ + 2, h⟩ => absurd h (Nat.not_lt.2 (Nat.le_add_left _ _))
abbrev sem1_22 : Fin 2 → DmaSem sig := fun | 0 => cc1_sem22_0 | 1 => cc1_sem22_1 | ⟨_ + 2, h⟩ => absurd h (Nat.not_lt.2 (Nat.le_add_left _ _))
abbrev reads1_22 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S2x300x64x64 : Shape := ⟨4, ![2, 300, 64, 64]⟩
abbrev S2x64x5 : Shape := ⟨3, ![2, 64, 5]⟩
abbrev S64x64 : Shape := ⟨2, ![64, 64]⟩
abbrev S64 : Shape := ⟨1, ![64]⟩
abbrev S256x64 : Shape := ⟨2, ![256, 64]⟩
abbrev S256 : Shape := ⟨1, ![256]⟩
abbrev S64x256 : Shape := ⟨2, ![64, 256]⟩
abbrev S70x64 : Shape := ⟨2, ![70, 64]⟩
abbrev S30x64 : Shape := ⟨2, ![30, 64]⟩
abbrev S10x64 : Shape := ⟨2, ![10, 64]⟩
abbrev S40x64 : Shape := ⟨2, ![40, 64]⟩
abbrev S400x64 : Shape := ⟨2, ![400, 64]⟩
abbrev S64x25 : Shape := ⟨2, ![64, 25]⟩
abbrev S2x64x1 : Shape := ⟨3, ![2, 64, 1]⟩
abbrev S2x64 : Shape := ⟨2, ![2, 64]⟩
abbrev S_ : Shape := ⟨0, ![]⟩
abbrev S2x64x64 : Shape := ⟨3, ![2, 64, 64]⟩
abbrev S1x1x64x64 : Shape := ⟨4, ![1, 1, 64, 64]⟩
abbrev S2x1x64x64 : Shape := ⟨4, ![2, 1, 64, 64]⟩
abbrev S2x300x64x4x16 : Shape := ⟨5, ![2, 300, 64, 4, 16]⟩
abbrev S2x4x300x64x16 : Shape := ⟨5, ![2, 4, 300, 64, 16]⟩
abbrev S64x25x1 : Shape := ⟨3, ![64, 25, 1]⟩
abbrev S2x4x300x64x25x16 : Shape := ⟨6, ![2, 4, 300, 64, 25, 16]⟩
abbrev S2x4x300x64x25 : Shape := ⟨5, ![2, 4, 300, 64, 25]⟩
abbrev S2x4x300x64 : Shape := ⟨4, ![2, 4, 300, 64]⟩
abbrev S2x4x300x25 : Shape := ⟨4, ![2, 4, 300, 25]⟩
abbrev S2x4x300x25x1 : Shape := ⟨5, ![2, 4, 300, 25, 1]⟩
abbrev S1 : Shape := ⟨1, ![1]⟩
abbrev S1x1x1x1x1 : Shape := ⟨5, ![1, 1, 1, 1, 1]⟩
abbrev S2x4x300x25x16 : Shape := ⟨5, ![2, 4, 300, 25, 16]⟩
abbrev S2x4x300x25x64 : Shape := ⟨5, ![2, 4, 300, 25, 64]⟩
abbrev S2x4x300x16 : Shape := ⟨4, ![2, 4, 300, 16]⟩
abbrev S2x4x300x1x16 : Shape := ⟨5, ![2, 4, 300, 1, 16]⟩
abbrev S2 : Shape := ⟨1, ![2]⟩
abbrev S2x1x1x1 : Shape := ⟨4, ![2, 1, 1, 1]⟩
abbrev S4 : Shape := ⟨1, ![4]⟩
abbrev S1x4x1x1 : Shape := ⟨4, ![1, 4, 1, 1]⟩
abbrev S300 : Shape := ⟨1, ![300]⟩
abbrev S1x1x300x1 : Shape := ⟨4, ![1, 1, 300, 1]⟩
abbrev S2x4x300x25x4 : Shape := ⟨5, ![2, 4, 300, 25, 4]⟩
abbrev S1x1x1x64 : Shape := ⟨4, ![1, 1, 1, 64]⟩
abbrev S2x300x64 : Shape := ⟨3, ![2, 300, 64]⟩
abbrev S2x300x64x1 : Shape := ⟨4, ![2, 300, 64, 1]⟩
abbrev S2x300x64x256 : Shape := ⟨4, ![2, 300, 64, 256]⟩
abbrev S1x1x1x256 : Shape := ⟨4, ![1, 1, 1, 256]⟩

abbrev nBuf : Space → Nat
  | .hbm => 291
  | .vmem => 0
  | .smem => 0
  | _ => 0

abbrev hbmTy0_0 (i : Nat) : BufTy := match i % 128 with
  | 0 => ⟨S2x300x64x64, .f32⟩
  | 1 => ⟨S2x64x5, .i32⟩
  | 2 => ⟨S64x64, .f32⟩
  | 3 => ⟨S64x64, .f32⟩
  | 4 => ⟨S64x64, .f32⟩
  | 5 => ⟨S64x64, .f32⟩
  | 6 => ⟨S64, .f32⟩
  | 7 => ⟨S64, .f32⟩
  | 8 => ⟨S64, .f32⟩
  | 9 => ⟨S64, .f32⟩
  | 10 => ⟨S64, .f32⟩
  | 11 => ⟨S256x64, .f32⟩
  | 12 => ⟨S256, .f32⟩
  | 13 => ⟨S64x256, .f32⟩
  | 14 => ⟨S64, .f32⟩
  | 15 => ⟨S70x64, .f32⟩
  | 16 => ⟨S30x64, .f32⟩
  | 17 => ⟨S10x64, .f32⟩
  | 18 => ⟨S40x64, .f32⟩
  | 19 => ⟨S400x64, .f32⟩
  | 20 => ⟨S64x64, .f32⟩
  | 21 => ⟨S64x25, .i32⟩
  | 22 => ⟨S2x64x1, .i32⟩
  | 23 => ⟨S2x64, .i32⟩
  | 24 => ⟨S_, .i32⟩
  | 25 => ⟨S2x64, .i32⟩
  | 26 => ⟨S2x64, .i1⟩
  | 27 => ⟨S_, .i32⟩
  | 28 => ⟨S2x64, .i32⟩
  | 29 => ⟨S2x64, .i32⟩
  | 30 => ⟨S2x64, .i32⟩
  | 31 => ⟨S2x64x1, .i32⟩
  | 32 => ⟨S2x64x64, .f32⟩
  | 33 => ⟨S2x64x1, .i32⟩
  | 34 => ⟨S2x64, .i32⟩
  | 35 => ⟨S_, .i32⟩
  | 36 => ⟨S2x64, .i32⟩
  | 37 => ⟨S2x64, .i1⟩
  | 38 => ⟨S_, .i32⟩
  | 39 => ⟨S2x64, .i32⟩
  | 40 => ⟨S2x64, .i32⟩
  | 41 => ⟨S2x64, .i32⟩
  | 42 => ⟨S2x64x1, .i32⟩
  | 43 => ⟨S2x64x64, .f32⟩
  | 44 => ⟨S2x64x64, .f32⟩
  | 45 => ⟨S2x64x1, .i32⟩
  | 46 => ⟨S2x64, .i32⟩
  | 47 => ⟨S_, .i32⟩
  | 48 => ⟨S2x64, .i32⟩
  | 49 => ⟨S2x64, .i1⟩
  | 50 => ⟨S_, .i32⟩
  | 51 => ⟨S2x64, .i32⟩
  | 52 => ⟨S2x64, .i32⟩
  | 53 => ⟨S2x64, .i32⟩
  | 54 => ⟨S2x64x1, .i32⟩
  | 55 => ⟨S2x64x64, .f32⟩
  | 56 => ⟨S2x64x64, .f32⟩
  | 57 => ⟨S2x64x1, .i32⟩
  | 58 => ⟨S2x64, .i32⟩
  | 59 => ⟨S_, .i32⟩
  | 60 => ⟨S2x64, .i32⟩
  | 61 => ⟨S2x64, .i1⟩
  | 62 => ⟨S_, .i32⟩
  | 63 => ⟨S2x64, .i32⟩
  | 64 => ⟨S2x64, .i32⟩
  | 65 => ⟨S2x64, .i32⟩
  | 66 => ⟨S2x64x1, .i32⟩
  | 67 => ⟨S2x64x64, .f32⟩
  | 68 => ⟨S2x64x64, .f32⟩
  | 69 => ⟨S2x64x1, .i32⟩
  | 70 => ⟨S2x64, .i32⟩
  | 71 => ⟨S_, .i32⟩
  | 72 => ⟨S2x64, .i32⟩
  | 73 => ⟨S2x64, .i1⟩
  | 74 => ⟨S_, .i32⟩
  | 75 => ⟨S2x64, .i32⟩
  | 76 => ⟨S2x64, .i32⟩
  | 77 => ⟨S2x64, .i32⟩
  | 78 => ⟨S2x64x1, .i32⟩
  | 79 => ⟨S2x64x64, .f32⟩
  | 80 => ⟨S2x64x64, .f32⟩
  | 81 => ⟨S1x1x64x64, .f32⟩
  | 82 => ⟨S2x300x64x64, .f32⟩
  | 83 => ⟨S2x300x64x64, .f32⟩
  | 84 => ⟨S2x1x64x64, .f32⟩
  | 85 => ⟨S2x300x64x64, .f32⟩
  | 86 => ⟨S2x300x64x64, .f32⟩
  | 87 => ⟨S64x64, .f32⟩
  | 88 => ⟨S2x300x64x64, .f32⟩
  | 89 => ⟨S2x300x64x4x16, .f32⟩
  | 90 => ⟨S2x4x300x64x16, .f32⟩
  | 91 => ⟨S64x64, .f32⟩
  | 92 => ⟨S2x300x64x64, .f32⟩
  | 93 => ⟨S2x300x64x4x16, .f32⟩
  | 94 => ⟨S2x4x300x64x16, .f32⟩
  | 95 => ⟨S64x64, .f32⟩
  | 96 => ⟨S2x300x64x64, .f32⟩
  | 97 => ⟨S2x300x64x4x16, .f32⟩
  | 98 => ⟨S2x4x300x64x16, .f32⟩
  | 99 => ⟨S_, .i32⟩
  | 100 => ⟨S64x25, .i32⟩
  | 101 => ⟨S64x25, .i1⟩
  | 102 => ⟨S_, .i32⟩
  | 103 => ⟨S64x25, .i32⟩
  | 104 => ⟨S64x25, .i32⟩
  | 105 => ⟨S64x25, .i32⟩
  | 106 => ⟨S64x25x1, .i32⟩
  | 107 => ⟨S2x4x300x64x25x16, .f32⟩
  | 108 => ⟨S2x4x300x64x25, .f32⟩
  | 109 => ⟨S_, .f32⟩
  | 110 => ⟨S2x4x300x64, .f32⟩
  | 111 => ⟨S_, .f32⟩
  | 112 => ⟨S2x4x300x64, .f32⟩
  | 113 => ⟨S_, .f32⟩
  | 114 => ⟨S2x4x300x64, .f32⟩
  | 115 => ⟨S2x4x300x64, .f32⟩
  | 116 => ⟨S2x4x300x64, .f32⟩
  | 117 => ⟨S2x4x300x25, .f32⟩
  | 118 => ⟨S2x4x300x25, .i32⟩
  | 119 => ⟨S2x4x300x25x1, .i32⟩
  | 120 => ⟨S_, .i32⟩
  | 121 => ⟨S2x4x300x25x1, .i32⟩
  | 122 => ⟨S2x4x300x25x1, .i1⟩
  | 123 => ⟨S_, .i32⟩
  | 124 => ⟨S2x4x300x25x1, .i32⟩
  | 125 => ⟨S2x4x300x25x1, .i32⟩
  | 126 => ⟨S2x4x300x25x1, .i32⟩
  | 127 => ⟨S1, .i32⟩
  | _ => ⟨S2x300x64x64, .f32⟩

abbrev hbmTy0_1 (i : Nat) : BufTy := match i % 128 with
  | 0 => ⟨S_, .i32⟩
  | 1 => ⟨S2x4x300x25x1, .i32⟩
  | 2 => ⟨S2x4x300x25x1, .i1⟩
  | 3 => ⟨S1x1x1x1x1, .i32⟩
  | 4 => ⟨S2x4x300x25x1, .i32⟩
  | 5 => ⟨S2x4x300x25x1, .i1⟩
  | 6 => ⟨S2x4x300x25x1, .i1⟩
  | 7 => ⟨S_, .i1⟩
  | 8 => ⟨S2x4x300x25, .i1⟩
  | 9 => ⟨S2x4x300x25x16, .f32⟩
  | 10 => ⟨S2x4x300x25x16, .i1⟩
  | 11 => ⟨S_, .f32⟩
  | 12 => ⟨S2x4x300x25x16, .f32⟩
  | 13 => ⟨S2x4x300x25x16, .f32⟩
  | 14 => ⟨S2x4x300x25x64, .f32⟩
  | 15 => ⟨S_, .f32⟩
  | 16 => ⟨S2x4x300x25x64, .f32⟩
  | 17 => ⟨S2x4x300x25x64, .f32⟩
  | 18 => ⟨S_, .f32⟩
  | 19 => ⟨S2x4x300x16, .f32⟩
  | 20 => ⟨S2x4x300x1x16, .f32⟩
  | 21 => ⟨S_, .f32⟩
  | 22 => ⟨S2x4x300x1x16, .f32⟩
  | 23 => ⟨S2x4x300x1x16, .f32⟩
  | 24 => ⟨S2x4x300x64x16, .f32⟩
  | 25 => ⟨S_, .f32⟩
  | 26 => ⟨S2x4x300x25, .f32⟩
  | 27 => ⟨S_, .f32⟩
  | 28 => ⟨S2x4x300x25, .f32⟩
  | 29 => ⟨S2x4x300x25, .f32⟩
  | 30 => ⟨S2x4x300x25x1, .f32⟩
  | 31 => ⟨S2x4x300x25x64, .f32⟩
  | 32 => ⟨S2x4x300x25x64, .f32⟩
  | 33 => ⟨S2x4x300x25x64, .f32⟩
  | 34 => ⟨S_, .f32⟩
  | 35 => ⟨S2x4x300x25, .f32⟩
  | 36 => ⟨S2x4x300x25x1, .f32⟩
  | 37 => ⟨S2x4x300x25x64, .f32⟩
  | 38 => ⟨S2x4x300x25x64, .f32⟩
  | 39 => ⟨S2x4x300x25x16, .f32⟩
  | 40 => ⟨S2, .i32⟩
  | 41 => ⟨S2x1x1x1, .i32⟩
  | 42 => ⟨S4, .i32⟩
  | 43 => ⟨S1x4x1x1, .i32⟩
  | 44 => ⟨S300, .i32⟩
  | 45 => ⟨S1x1x300x1, .i32⟩
  | 46 => ⟨S_, .i32⟩
  | 47 => ⟨S2x1x1x1, .i32⟩
  | 48 => ⟨S2x1x1x1, .i1⟩
  | 49 => ⟨S_, .i32⟩
  | 50 => ⟨S2x1x1x1, .i32⟩
  | 51 => ⟨S2x1x1x1, .i32⟩
  | 52 => ⟨S2x1x1x1, .i32⟩
  | 53 => ⟨S_, .i32⟩
  | 54 => ⟨S1x4x1x1, .i32⟩
  | 55 => ⟨S1x4x1x1, .i1⟩
  | 56 => ⟨S_, .i32⟩
  | 57 => ⟨S1x4x1x1, .i32⟩
  | 58 => ⟨S1x4x1x1, .i32⟩
  | 59 => ⟨S1x4x1x1, .i32⟩
  | 60 => ⟨S_, .i32⟩
  | 61 => ⟨S1x1x300x1, .i32⟩
  | 62 => ⟨S1x1x300x1, .i1⟩
  | 63 => ⟨S_, .i32⟩
  | 64 => ⟨S1x1x300x1, .i32⟩
  | 65 => ⟨S1x1x300x1, .i32⟩
  | 66 => ⟨S1x1x300x1, .i32⟩
  | 67 => ⟨S_, .i32⟩
  | 68 => ⟨S2x4x300x25, .i32⟩
  | 69 => ⟨S2x4x300x25, .i1⟩
  | 70 => ⟨S_, .i32⟩
  | 71 => ⟨S2x4x300x25, .i32⟩
  | 72 => ⟨S2x4x300x25, .i32⟩
  | 73 => ⟨S2x4x300x25, .i32⟩
  | 74 => ⟨S2x4x300x25, .i32⟩
  | 75 => ⟨S2x4x300x25, .i32⟩
  | 76 => ⟨S2x4x300x25, .i32⟩
  | 77 => ⟨S2x4x300x25x1, .i32⟩
  | 78 => ⟨S2x4x300x25x1, .i32⟩
  | 79 => ⟨S2x4x300x25x1, .i32⟩
  | 80 => ⟨S2x4x300x25x1, .i32⟩
  | 81 => ⟨S2x4x300x25x4, .i32⟩
  | 82 => ⟨S2x4x300x64x16, .f32⟩
  | 83 => ⟨S2x300x64x4x16, .f32⟩
  | 84 => ⟨S2x300x64x64, .f32⟩
  | 85 => ⟨S64x64, .f32⟩
  | 86 => ⟨S2x300x64x64, .f32⟩
  | 87 => ⟨S1x1x1x64, .f32⟩
  | 88 => ⟨S2x300x64x64, .f32⟩
  | 89 => ⟨S2x300x64x64, .f32⟩
  | 90 => ⟨S2x300x64x64, .f32⟩
  | 91 => ⟨S_, .f32⟩
  | 92 => ⟨S2x300x64, .f32⟩
  | 93 => ⟨S2x300x64x1, .f32⟩
  | 94 => ⟨S_, .f32⟩
  | 95 => ⟨S2x300x64x1, .f32⟩
  | 96 => ⟨S2x300x64x1, .f32⟩
  | 97 => ⟨S2x300x64x64, .f32⟩
  | 98 => ⟨S2x300x64x64, .f32⟩
  | 99 => ⟨S2x300x64x64, .f32⟩
  | 100 => ⟨S_, .f32⟩
  | 101 => ⟨S2x300x64, .f32⟩
  | 102 => ⟨S2x300x64x1, .f32⟩
  | 103 => ⟨S_, .f32⟩
  | 104 => ⟨S2x300x64x1, .f32⟩
  | 105 => ⟨S2x300x64x1, .f32⟩
  | 106 => ⟨S2x300x64x64, .f32⟩
  | 107 => ⟨S2x300x64x64, .f32⟩
  | 108 => ⟨S_, .f32⟩
  | 109 => ⟨S2x300x64x1, .f32⟩
  | 110 => ⟨S2x300x64x1, .f32⟩
  | 111 => ⟨S2x300x64x1, .f32⟩
  | 112 => ⟨S2x300x64x64, .f32⟩
  | 113 => ⟨S2x300x64x64, .f32⟩
  | 114 => ⟨S1x1x1x64, .f32⟩
  | 115 => ⟨S2x300x64x64, .f32⟩
  | 116 => ⟨S2x300x64x64, .f32⟩
  | 117 => ⟨S1x1x1x64, .f32⟩
  | 118 => ⟨S2x300x64x64, .f32⟩
  | 119 => ⟨S2x300x64x64, .f32⟩
  | 120 => ⟨S64x256, .f32⟩
  | 121 => ⟨S2x300x64x256, .f32⟩
  | 122 => ⟨S1x1x1x256, .f32⟩
  | 123 => ⟨S2x300x64x256, .f32⟩
  | 124 => ⟨S2x300x64x256, .f32⟩
  | 125 => ⟨S_, .f32⟩
  | 126 => ⟨S2x300x64x256, .f32⟩
  | 127 => ⟨S2x300x64x256, .f32⟩
  | _ => ⟨S2x300x64x64, .f32⟩

abbrev hbmTy0_2 (i : Nat) : BufTy := match i % 128 with
  | 0 => ⟨S256x64, .f32⟩
  | 1 => ⟨S2x300x64x64, .f32⟩
  | 2 => ⟨S1x1x1x64, .f32⟩
  | 3 => ⟨S2x300x64x64, .f32⟩
  | 4 => ⟨S2x300x64x64, .f32⟩
  | 5 => ⟨S2x300x64x64, .f32⟩
  | 6 => ⟨S_, .f32⟩
  | 7 => ⟨S2x300x64, .f32⟩
  | 8 => ⟨S2x300x64x1, .f32⟩
  | 9 => ⟨S_, .f32⟩
  | 10 => ⟨S2x300x64x1, .f32⟩
  | 11 => ⟨S2x300x64x1, .f32⟩
  | 12 => ⟨S2x300x64x64, .f32⟩
  | 13 => ⟨S2x300x64x64, .f32⟩
  | 14 => ⟨S2x300x64x64, .f32⟩
  | 15 => ⟨S_, .f32⟩
  | 16 => ⟨S2x300x64, .f32⟩
  | 17 => ⟨S2x300x64x1, .f32⟩
  | 18 => ⟨S_, .f32⟩
  | 19 => ⟨S2x300x64x1, .f32⟩
  | 20 => ⟨S2x300x64x1, .f32⟩
  | 21 => ⟨S2x300x64x64, .f32⟩
  | 22 => ⟨S2x300x64x64, .f32⟩
  | 23 => ⟨S_, .f32⟩
  | 24 => ⟨S2x300x64x1, .f32⟩
  | 25 => ⟨S2x300x64x1, .f32⟩
  | 26 => ⟨S2x300x64x1, .f32⟩
  | 27 => ⟨S2x300x64x64, .f32⟩
  | 28 => ⟨S2x300x64x64, .f32⟩
  | 29 => ⟨S1x1x1x64, .f32⟩
  | 30 => ⟨S2x300x64x64, .f32⟩
  | 31 => ⟨S2x300x64x64, .f32⟩
  | 32 => ⟨S1x1x1x64, .f32⟩
  | 33 => ⟨S2x300x64x64, .f32⟩
  | 34 => ⟨S2x300x64x64, .f32⟩
  | _ => ⟨S2x300x64x64, .f32⟩

abbrev hbmTy (i : Nat) : BufTy := match i / 128 with
  | 0 => hbmTy0_0 i
  | 1 => hbmTy0_1 i
  | 2 => hbmTy0_2 i
  | _ => ⟨S2x300x64x64, .f32⟩

abbrev bufTy : (tb : Table) → Fin (tcTables nBuf tb) → BufTy
  | .hbm, ⟨i, _⟩ => hbmTy i
  | _, _ => ⟨S2x300x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_c_1 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_2 : Ref sig .tc := ⟨.hbm, 35, rfl⟩
abbrev main_v11 : Ref sig .tc := ⟨.hbm, 36, rfl⟩
abbrev main_v12 : Ref sig .tc := ⟨.hbm, 37, rfl⟩
abbrev main_c_3 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_4 : Ref sig .tc := ⟨.hbm, 47, rfl⟩
abbrev main_v21 : Ref sig .tc := ⟨.hbm, 48, rfl⟩
abbrev main_v22 : Ref sig .tc := ⟨.hbm, 49, rfl⟩
abbrev main_c_5 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_8 : Ref sig .tc := ⟨.hbm, 71, rfl⟩
abbrev main_v41 : Ref sig .tc := ⟨.hbm, 72, rfl⟩
abbrev main_v42 : Ref sig .tc := ⟨.hbm, 73, rfl⟩
abbrev main_c_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_10 : Ref sig .tc := ⟨.hbm, 99, rfl⟩
abbrev main_v67 : Ref sig .tc := ⟨.hbm, 100, rfl⟩
abbrev main_v68 : Ref sig .tc := ⟨.hbm, 101, rfl⟩
abbrev main_c_11 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_12 : Ref sig .tc := ⟨.hbm, 109, rfl⟩
abbrev main_v75 : Ref sig .tc := ⟨.hbm, 110, rfl⟩
abbrev main_cst_13 : Ref sig .tc := ⟨.hbm, 111, rfl⟩
abbrev main_v76 : Ref sig .tc := ⟨.hbm, 112, rfl⟩
abbrev main_cst_14 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_values : Ref sig .tc := ⟨.hbm, 117, rfl⟩
abbrev main_indices : Ref sig .tc := ⟨.hbm, 118, rfl⟩
abbrev main_v80 : Ref sig .tc := ⟨.hbm, 119, rfl⟩
abbrev main_call0_c : Ref sig .tc := ⟨.hbm, 120, rfl⟩
abbrev main_call0_v0 : Ref sig .tc := ⟨.hbm, 121, rfl⟩
abbrev main_call0_v1 : Ref sig .tc := ⟨.hbm, 122, rfl⟩
abbrev main_call0_c_0 : Ref sig .tc := ⟨.hbm, 123, rfl⟩
abbrev main_call0_v2 : Ref sig .tc := ⟨.hbm, 124, rfl⟩
abbrev main_call0_v3 : Ref sig .tc := ⟨.hbm, 125, rfl⟩
abbrev main_call0_v4 : Ref sig .tc := ⟨.hbm, 126, rfl⟩
abbrev main_call0_c_1 : Ref sig .tc := ⟨.hbm, 127, rfl⟩
abbrev main_call0_c_2 : Ref sig .tc := ⟨.hbm, 128, rfl⟩
abbrev main_call0_v5 : Ref sig .tc := ⟨.hbm, 129, rfl⟩
abbrev main_call0_v6 : Ref sig .tc := ⟨.hbm, 130, rfl⟩
abbrev main_call0_v7 : Ref sig .tc := ⟨.hbm, 131, rfl⟩
abbrev main_call0_v8 : Ref sig .tc := ⟨.hbm, 132, rfl⟩
abbrev main_call0_v9 : Ref sig .tc := ⟨.hbm, 133, rfl⟩
abbrev main_call0_v10 : Ref sig .tc := ⟨.hbm, 134, rfl⟩
abbrev main_call0_c_3 : Ref sig .tc := ⟨.hbm, 135, rfl⟩
abbrev main_call0_v11 : Ref sig .tc := ⟨.hbm, 136, rfl⟩
abbrev main_call0_v12 : Ref sig .tc := ⟨.hbm, 137, rfl⟩
abbrev main_call0_v13 : Ref sig .tc := ⟨.hbm, 138, rfl⟩
abbrev main_call0_cst : Ref sig .tc := ⟨.hbm, 139, rfl⟩
abbrev main_call0_v14 : Ref sig .tc := ⟨.hbm, 140, rfl⟩
abbrev main_v81 : Ref sig .tc := ⟨.hbm, 141, rfl⟩
abbrev main_v82 : Ref sig .tc := ⟨.hbm, 142, rfl⟩
abbrev main_cst_15 : Ref sig .tc := ⟨.hbm, 143, rfl⟩
abbrev main_v83 : Ref sig .tc := ⟨.hbm, 144, rfl⟩
abbrev main_v84 : Ref sig .tc := ⟨.hbm, 145, rfl⟩
abbrev main_cst_16 : Ref sig .tc := ⟨.hbm, 146, rfl⟩
abbrev main_v85 : Ref sig .tc := ⟨.hbm, 147, rfl⟩
abbrev main_v86 : Ref sig .tc := ⟨.hbm, 148, rfl⟩
abbrev main_cst_17 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_cst_18 : Ref sig .tc := ⟨.hbm, 153, rfl⟩
abbrev main_v90 : Ref sig .tc := ⟨.hbm, 154, rfl⟩
abbrev main_cst_19 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_cst_20 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_c_21 : Ref sig .tc := ⟨.hbm, 174, rfl⟩
abbrev main_v108 : Ref sig .tc := ⟨.hbm, 175, rfl⟩
abbrev main_v109 : Ref sig .tc := ⟨.hbm, 176, rfl⟩
abbrev main_c_22 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_c_23 : Ref sig .tc := ⟨.hbm, 181, rfl⟩
abbrev main_v113 : Ref sig .tc := ⟨.hbm, 182, rfl⟩
abbrev main_v114 : Ref sig .tc := ⟨.hbm, 183, rfl⟩
abbrev main_c_24 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_c_25 : Ref sig .tc := ⟨.hbm, 188, rfl⟩
abbrev main_v118 : Ref sig .tc := ⟨.hbm, 189, rfl⟩
abbrev main_v119 : Ref sig .tc := ⟨.hbm, 190, rfl⟩
abbrev main_c_26 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_c_27 : Ref sig .tc := ⟨.hbm, 195, rfl⟩
abbrev main_v123 : Ref sig .tc := ⟨.hbm, 196, rfl⟩
abbrev main_v124 : Ref sig .tc := ⟨.hbm, 197, rfl⟩
abbrev main_c_28 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_cst_29 : Ref sig .tc := ⟨.hbm, 219, rfl⟩
abbrev main_v145 : Ref sig .tc := ⟨.hbm, 220, rfl⟩
abbrev main_v146 : Ref sig .tc := ⟨.hbm, 221, rfl⟩
abbrev main_cst_30 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_cst_31 : Ref sig .tc := ⟨.hbm, 228, rfl⟩
abbrev main_v152 : Ref sig .tc := ⟨.hbm, 229, rfl⟩
abbrev main_v153 : Ref sig .tc := ⟨.hbm, 230, rfl⟩
abbrev main_cst_32 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_cst_33 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_cst_34 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_cst_35 : Ref sig .tc := ⟨.hbm, 262, rfl⟩
abbrev main_v182 : Ref sig .tc := ⟨.hbm, 263, rfl⟩
abbrev main_v183 : Ref sig .tc := ⟨.hbm, 264, rfl⟩
abbrev main_cst_36 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_cst_37 : Ref sig .tc := ⟨.hbm, 271, rfl⟩
abbrev main_v189 : Ref sig .tc := ⟨.hbm, 272, rfl⟩
abbrev main_v190 : Ref sig .tc := ⟨.hbm, 273, rfl⟩
abbrev main_cst_38 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_cst_39 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩

abbrev nD : Nat := 1
abbrev τ : Topo := Topo.v7x

variable {F : FTy → Type} [FloatOps F]
-- ==== Proof.KernelIdealRegions.lean ====
/- The regions of `KernelIdeal`: each window's block at a point, what a body leaves in its output window, and the obligation
   that a body meets. The set-up is that of a run of two regions among stretches of host operations. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x64x5 := Rect.unit (s := S1x64x5) ![0, 0, 0] S1x64x5.size inb_S1x64x5_S1x64x5_0_0_0
abbrev r0_1 : Rect S70x64 := Rect.unit (s := S70x64) ![0, 0] S70x64.size inb_S70x64_S70x64_0_0
abbrev r0_2 : Rect S30x64 := Rect.unit (s := S30x64) ![0, 0] S30x64.size inb_S30x64_S30x64_0_0
abbrev r0_3 : Rect S10x64 := Rect.unit (s := S10x64) ![0, 0] S10x64.size inb_S10x64_S10x64_0_0
abbrev r0_4 : Rect S40x64 := Rect.unit (s := S40x64) ![0, 0] S40x64.size inb_S40x64_S40x64_0_0
abbrev r0_5 : Rect S400x64 := Rect.unit (s := S400x64) ![0, 0] S400x64.size inb_S400x64_S400x64_0_0
abbrev r0_6 : Rect S1x384x64 := Rect.unit (s := S1x384x64) ![0, 0, 0] S1x384x64.size inb_S1x384x64_S1x384x64_0_0_0

def out0_6 (x0 : Vec F S1x64x5 .i32) (x1 : Vec F S70x64 .f32) (x2 : Vec F S30x64 .f32) (x3 : Vec F S10x64 .f32) (x4 : Vec F S40x64 .f32) (x5 : Vec F S400x64 .f32) : Vec F S1x384x64 .f32 :=
  View.canon [⟨r0_6, k0_pay1 (k0_pay3 (View.ld x0 r0_0) (View.ld x1 r0_1) (View.ld x2 r0_2) (View.ld x3 r0_3) (View.ld x4 r0_4)) (k0_pay4 (View.ld x0 r0_0)) (View.ld x5 r0_5)⟩]

/-- Its stores tile the buffer (checked by evaluation), so they cover it. -/
theorem cover0_6 (p0 : Vec F S1x384x64 .f32) (y : S1x384x64.Idx) :
    ∃ pc ∈ ([⟨r0_6, p0⟩] : List (View.Piece (Elt F) S1x384x64 .f32)), y ∈ pc.1.set :=
  View.cover_of_tiled [⟨r0_6, p0⟩] S1x384x64.size (by rfl) y

set_option maxHeartbeats 1000000 in
theorem sound_kernel0 (c : Dev nD) (E : Set ℕ) (i : grid0.Coords) (arg1 : Memref sig .tc .vmem S1x64x5 .i32) (harg1 : arg1.IsWhole) (arg2 : Memref sig .tc .vmem S70x64 .f32) (harg2 : arg2.IsWhole) (arg3 : Memref sig .tc .vmem S30x64 .f32) (harg3 : arg3.IsWhole) (arg4 : Memref sig .tc .vmem S10x64 .f32) (harg4 : arg4.IsWhole) (arg5 : Memref sig .tc .vmem S40x64 .f32) (harg5 : arg5.IsWhole) (arg6 : Memref sig .tc .vmem S400x64 .f32) (harg6 : arg6.IsWhole) (arg7 : Memref sig .tc .vmem S1x384x64 .f32) (harg7 : arg7.IsWhole)
    (x0 : Vec F S1x64x5 .i32) (x1 : Vec F S70x64 .f32) (x2 : Vec F S30x64 .f32) (x3 : Vec F S10x64 .f32) (x4 : Vec F S40x64 .f32) (x5 : Vec F S400x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__embed_body i arg1 harg1 arg2 harg2 arg3 harg3 arg4 harg4 arg5 harg5 arg6 harg6 arg7 harg7) K := by
  simp only [cc0__embed_body_eq_skeleton]; unfold cc0__embed_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)
theorem before1_16_of {c : Dev nD} (dat : Dat τ (Elt F) Unit ℕ (UR sig nD τ) ℕ cfg1 c) (hA : dat.A 16 = V c (Pipeline.arrRef spec1 16))
    (hafter : ∀ t, dat.after 16 t = iblk1 V c 16 t) (t : Fin cfg1.N) (d) : dat.before 16 t d = iblk1 V c 16 t :=
  (dat.before_in_eq_fetched 16 rfl (fun _ => rfl) (fun _ _ _ => rfl) (fun t => by rw [hafter]; unfold Dat.blockOf iblk1; rw [hA]; try rfl) t d).trans
    (by unfold Dat.fetched Dat.blockOf iblk1; rw [hA]; try rfl)
theorem before1_17_of {c : Dev nD} (dat : Dat τ (Elt F) Unit ℕ (UR sig nD τ) ℕ cfg1 c) (hA : dat.A 17 = V c (Pipeline.arrRef spec1 17))
    (hafter : ∀ t, dat.after 17 t = iblk1 V c 17 t) (t : Fin cfg1.N) (d) : dat.before 17 t d = iblk1 V c 17 t :=
  (dat.before_in_eq_fetched 17 rfl (fun _ => rfl) (fun _ _ _ => rfl) (fun t => by rw [hafter]; unfold Dat.blockOf iblk1; rw [hA]; try rfl) t d).trans
    (by unfold Dat.fetched Dat.blockOf iblk1; rw [hA]; try rfl)
theorem before1_18_of {c : Dev nD} (dat : Dat τ (Elt F) Unit ℕ (UR sig nD τ) ℕ cfg1 c) (hA : dat.A 18 = V c (Pipeline.arrRef spec1 18))
    (hafter : ∀ t, dat.after 18 t = iblk1 V c 18 t) (t : Fin cfg1.N) (d) : dat.before 18 t d = iblk1 V c 18 t :=
  (dat.before_in_eq_fetched 18 rfl (fun _ => rfl) (fun _ _ _ => rfl) (fun t => by rw [hafter]; unfold Dat.blockOf iblk1; rw [hA]; try rfl) t d).trans
    (by unfold Dat.fetched Dat.blockOf iblk1; rw [hA]; try rfl)
theorem before1_19_of {c : Dev nD} (dat : Dat τ (Elt F) Unit ℕ (UR sig nD τ) ℕ cfg1 c) (hA : dat.A 19 = V c (Pipeline.arrRef spec1 19))
    (hafter : ∀ t, dat.after 19 t = iblk1 V c 19 t) (t : Fin cfg1.N) (d) : dat.before 19 t d = iblk1 V c 19 t :=
  (dat.before_in_eq_fetched 19 rfl (fun _ => rfl) (fun _ _ _ => rfl) (fun t => by rw [hafter]; unfold Dat.blockOf iblk1; rw [hA]; try rfl) t d).trans
    (by unfold Dat.fetched Dat.blockOf iblk1; rw [hA]; try rfl)
theorem before1_20_of {c : Dev nD} (dat : Dat τ (Elt F) Unit ℕ (UR sig nD τ) ℕ cfg1 c) (hA : dat.A 20 = V c (Pipeline.arrRef spec1 20))
    (hafter : ∀ t, dat.after 20 t = iblk1 V c 20 t) (t : Fin cfg1.N) (d) : dat.before 20 t d = iblk1 V c 20 t :=
  (dat.before_in_eq_fetched 20 rfl (fun _ => rfl) (fun _ _ _ => rfl) (fun t => by rw [hafter]; unfold Dat.blockOf iblk1; rw [hA]; try rfl) t d).trans
    (by unfold Dat.fetched Dat.blockOf iblk1; rw [hA]; try rfl)
theorem before1_21_of {c : Dev nD} (dat : Dat τ (Elt F) Unit ℕ (UR sig nD τ) ℕ cfg1 c) (hA : dat.A 21 = V c (Pipeline.arrRef spec1 21))
    (hafter : ∀ t, dat.after 21 t = iblk1 V c 21 t) (t : Fin cfg1.N) (d) : dat.before 21 t d = iblk1 V c 21 t :=
  (dat.before_in_eq_fetched 21 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S384x64 := Rect.unit (s := S384x64) ![0, 0] S384x64.size inb_S384x64_S384x64_0_0
abbrev r1_1 : Rect S1x384x64 := Rect.unit (s := S1x384x64) ![0, 0, 0] S1x384x64.size inb_S1x384x64_S1x384x64_0_0_0
abbrev r1_2 : Rect S64x64 := Rect.unit (s := S64x64) ![0, 0] S64x64.size inb_S64x64_S64x64_0_0
abbrev r1_3 : Rect S384x384 := Rect.unit (s := S384x384) ![0, 0] S384x384.size inb_S384x384_S384x384_0_0
abbrev r1_4 : Rect S4x64 := Rect.unit (s := S4x64) ![0, 0] S1x64.size inb_S4x64_S1x64_0_0
abbrev r1_5 : Rect S4x64 := Rect.unit (s := S4x64) ![1, 0] S1x64.size inb_S4x64_S1x64_1_0
abbrev r1_6 : Rect S4x64 := Rect.unit (s := S4x64) ![2, 0] S1x64.size inb_S4x64_S1x64_2_0
abbrev r1_7 : Rect S4x64 := Rect.unit (s := S4x64) ![3, 0] S1x64.size inb_S4x64_S1x64_3_0
abbrev r1_8 : Rect S1x64 := Rect.unit (s := S1x64) ![0, 0] S1x64.size inb_S1x64_S1x64_0_0
abbrev r1_9 : Rect S256x64 := Rect.unit (s := S256x64) ![0, 0] S256x64.size inb_S256x64_S256x64_0_0
abbrev r1_10 : Rect S1x256 := Rect.unit (s := S1x256) ![0, 0] S1x256.size inb_S1x256_S1x256_0_0
abbrev r1_11 : Rect S64x256 := Rect.unit (s := S64x256) ![0, 0] S64x256.size inb_S64x256_S64x256_0_0

def k1_pay34 (x0 : Vec F S384x64 .f32) (x1 : Vec F S1x384x64 .f32) (x2 : Vec F S64x64 .f32) (x3 : Vec F S64x64 .f32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S256x64 .f32) (x12 : Vec F S1x256 .f32) (x13 : Vec F S64x256 .f32) (x14 : Vec F S1x64 .f32) (x15 : Vec F S4x64 .f32) (x16 : Vec F S384x384 .f32) (x17 : Vec F S384x384 .f32) (x18 : Vec F S384x384 .f32) (x19 : Vec F S384x384 .f32) (x20 : Vec F S384x384 .f32) (x21 : Vec F S384x64 .f32) : FVec F S384x64 .f32 :=
  k1_pay2 (View.ld x0 r1_0) (View.ld x21 r1_0) (View.ld x1 r1_1) -- `v7`
def k1_pay35 (x0 : Vec F S384x64 .f32) (x1 : Vec F S1x384x64 .f32) (x2 : Vec F S64x64 .f32) (x3 : Vec F S64x64 .f32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S256x64 .f32) (x12 : Vec F S1x256 .f32) (x13 : Vec F S64x256 .f32) (x14 : Vec F S1x64 .f32) (x15 : Vec F S4x64 .f32) (x16 : Vec F S384x384 .f32) (x17 : Vec F S384x384 .f32) (x18 : Vec F S384x384 .f32) (x19 : Vec F S384x384 .f32) (x20 : Vec F S384x384 .f32) (x21 : Vec F S384x64 .f32) : FVec F S384x64 .f32 :=
  k1_pay3 (View.ld x0 r1_0) (View.ld x21 r1_0) (View.ld x1 r1_1) (View.ld x2 r1_2) -- `v9`
def k1_pay36 (x0 : Vec F S384x64 .f32) (x1 : Vec F S1x384x64 .f32) (x2 : Vec F S64x64 .f32) (x3 : Vec F S64x64 .f32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S256x64 .f32) (x12 : Vec F S1x256 .f32) (x13 : Vec F S64x256 .f32) (x14 : Vec F S1x64 .f32) (x15 : Vec F S4x64 .f32) (x16 : Vec F S384x384 .f32) (x17 : Vec F S384x384 .f32) (x18 : Vec F S384x384 .f32) (x19 : Vec F S384x384 .f32) (x20 : Vec F S384x384 .f32) (x21 : Vec F S384x64 .f32) : FVec F S384x64 .f32 :=
  k1_pay4 (View.ld x0 r1_0) (View.ld x21 r1_0) (View.ld x1 r1_1) (View.ld x3 r1_2) -- `v11`
def k1_pay37 (x0 : Vec F S384x64 .f32) (x1 : Vec F S1x384x64 .f32) (x2 : Vec F S64x64 .f32) (x3 : Vec F S64x64 .f32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S256x64 .f32) (x12 : Vec F S1x256 .f32) (x13 : Vec F S64x256 .f32) (x14 : Vec F S1x64 .f32) (x15 : Vec F S4x64 .f32) (x16 : Vec F S384x384 .f32) (x17 : Vec F S384x384 .f32) (x18 : Vec F S384x384 .f32) (x19 : Vec F S384x384 .f32) (x20 : Vec F S384x384 .f32) (x21 : Vec F S384x64 .f32) : FVec F S384x64 .f32 :=
  k1_pay5 (View.ld x0 r1_0) (View.ld x21 r1_0) (View.ld x1 r1_1) (View.ld x4 r1_2) -- `v13`
def k1_pay38 (x0 : Vec F S384x64 .f32) (x1 : Vec F S1x384x64 .f32) (x2 : Vec F S64x64 .f32) (x3 : Vec F S64x64 .f32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S256x64 .f32) (x12 : Vec F S1x256 .f32) (x13 : Vec F S64x256 .f32) (x14 : Vec F S1x64 .f32) (x15 : Vec F S4x64 .f32) (x16 : Vec F S384x384 .f32) (x17 : Vec F S384x384 .f32) (x18 : Vec F S384x384 .f32) (x19 : Vec F S384x384 .f32) (x20 : Vec F S384x384 .f32) (x21 : Vec F S384x64 .f32) : FVec F S384x64 .f32 :=
  k1_pay6 (View.ld x0 r1_0) (View.ld x21 r1_0) (View.ld x1 r1_1) (View.ld x4 r1_2) (View.ld x18 r1_3) -- `v16`
def k1_pay39 (x0 : Vec F S384x64 .f32) (x1 : Vec F S1x384x64 .f32) (x2 : Vec F S64x64 .f32) (x3 : Vec F S64x64 .f32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S256x64 .f32) (x12 : Vec F S1x256 .f32) (x13 : Vec F S64x256 .f32) (x14 : Vec F S1x64 .f32) (x15 : Vec F S4x64 .f32) (x16 : Vec F S384x384 .f32) (x17 : Vec F S384x384 .f32) (x18 : Vec F S384x384 .f32) (x19 : Vec F S384x384 .f32) (x20 : Vec F S384x384 .f32) (x21 : Vec F S384x64 .f32) : FVec F S384x384 .f32 :=
  k1_pay8 (View.ld x16 r1_3) -- `v24`
def k1_pay40 (x0 : Vec F S384x64 .f32) (x1 : Vec F S1x384x64 .f32) (x2 : Vec F S64x64 .f32) (x3 : Vec F S64x64 .f32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S256x64 .f32) (x12 : Vec F S1x256 .f32) (x13 : Vec F S64x256 .f32) (x14 : Vec F S1x64 .f32) (x15 : Vec F S4x64 .f32) (x16 : Vec F S384x384 .f32) (x17 : Vec F S384x384 .f32) (x18 : Vec F S384x384 .f32) (x19 : Vec F S384x384 .f32) (x20 : Vec F S384x384 .f32) (x21 : Vec F S384x64 .f32) : FVec F S384x384 .f32 :=
  k1_pay10 (k1_pay9 (View.ld x17 r1_3)) (Scalar.ofBits .f32 0x00000000#32) (Named.named κ "mask" 0xF149F2CA#32) -- `v31`
def k1_pay41 (x0 : Vec F S384x64 .f32) (x1 : Vec F S1x384x64 .f32) (x2 : Vec F S64x64 .f32) (x3 : Vec F S64x64 .f32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S256x64 .f32) (x12 : Vec F S1x256 .f32) (x13 : Vec F S64x256 .f32) (x14 : Vec F S1x64 .f32) (x15 : Vec F S4x64 .f32) (x16 : Vec F S384x384 .f32) (x17 : Vec F S384x384 .f32) (x18 : Vec F S384x384 .f32) (x19 : Vec F S384x384 .f32) (x20 : Vec F S384x384 .f32) (x21 : Vec F S384x64 .f32) : FVec F S1x64 .f32 :=
  k1_pay15 (View.ld x15 r1_5) -- `v100`
def k1_pay42 (x0 : Vec F S384x64 .f32) (x1 : Vec F S1x384x64 .f32) (x2 : Vec F S64x64 .f32) (x3 : Vec F S64x64 .f32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S256x64 .f32) (x12 : Vec F S1x256 .f32) (x13 : Vec F S64x256 .f32) (x14 : Vec F S1x64 .f32) (x15 : Vec F S4x64 .f32) (x16 : Vec F S384x384 .f32) (x17 : Vec F S384x384 .f32) (x18 : Vec F S384x384 .f32) (x19 : Vec F S384x384 .f32) (x20 : Vec F S384x384 .f32) (x21 : Vec F S384x64 .f32) : FVec F S384x1 .f32 :=
  k1_pay17 (k1_pay35 x0 x1 x2 x3 x4 x5 x6 x7 x8 x9 x10 x11 x12 x13 x14 x15 x16 x17 x18 x19 x20 x21) (k1_pay36 x0 x1 x2 x3 x4 x5 x6 x7 x8 x9 x10 x11 x12 x13 x14 x15 x16 x17 x18 x19 x20 x21) (k1_pay39 x0 x1 x2 x3 x4 x5 x6 x7 x8 x9 x10 x11 x12 x13 x14 x15 x16 x17 x18 x19 x20 x21) (View.ld x15 r1_5) (View.ld x16 r1_3) -- `v114`
def k1_pay43 (x0 : Vec F S384x64 .f32) (x1 : Vec F S1x384x64 .f32) (x2 : Vec F S64x64 .f32) (x3 : Vec F S64x64 .f32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S256x64 .f32) (x12 : Vec F S1x256 .f32) (x13 : Vec F S64x256 .f32) (x14 : Vec F S1x64 .f32) (x15 : Vec F S4x64 .f32) (x16 : Vec F S384x384 .f32) (x17 : Vec F S384x384 .f32) (x18 : Vec F S384x384 .f32) (x19 : Vec F S384x384 .f32) (x20 : Vec F S384x384 .f32) (x21 : Vec F S384x64 .f32) : FVec F S384x384 .f32 :=
  k1_pay18 (View.ld x20 r1_3) -- `v116`
def k1_pay44 (x0 : Vec F S384x64 .f32) (x1 : Vec F S1x384x64 .f32) (x2 : Vec F S64x64 .f32) (x3 : Vec F S64x64 .f32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S256x64 .f32) (x12 : Vec F S1x256 .f32) (x13 : Vec F S64x256 .f32) (x14 : Vec F S1x64 .f32) (x15 : Vec F S4x64 .f32) (x16 : Vec F S384x384 .f32) (x17 : Vec F S384x384 .f32) (x18 : Vec F S384x384 .f32) (x19 : Vec F S384x384 .f32) (x20 : Vec F S384x384 .f32) (x21 : Vec F S384x64 .f32) : FVec F S384x64 .f32 :=
  k1_pay31 (k1_pay37 x0 x1 x2 x3 x4 x5 x6 x7 x8 x9 x10 x11 x12 x13 x14 x15 x16 x17 x18 x19 x20 x21) (k1_pay38 x0 x1 x2 x3 x4 x5 x6 x7 x8 x9 x10 x11 x12 x13 x14 x15 x16 x17 x18 x19 x20 x21) (k1_pay40 x0 x1 x2 x3 x4 x5 x6 x7 x8 x9 x10 x11 x12 x13 x14 x15 x16 x17 x18 x19 x20 x21) (k1_pay26 (k1_pay37 x0 x1 x2 x3 x4 x5 x6 x7 x8 x9 x10 x11 x12 x13 x14 x15 x16 x17 x18 x19 x20 x21) (k1_pay38 x0 x1 x2 x3 x4 x5 x6 x7 x8 x9 x10 x11 x12 x13 x14 x15 x16 x17 x18 x19 x20 x21) (k1_pay40 x0 x1 x2 x3 x4 x5 x6 x7 x8 x9 x10 x11 x12 x13 x14 x15 x16 x17 x18 x19 x20 x21) (k1_pay22 (k1_pay20 (k1_pay37 x0 x1 x2 x3 x4 x5 x6 x7 x8 x9 x10 x11 x12 x13 x14 x15 x16 x17 x18 x19 x20 x21) (k1_pay40 x0 x1 x2 x3 x4 x5 x6 x7 x8 x9 x10 x11 x12 x13 x14 x15 x16 x17 x18 x19 x20 x21) (k1_pay14 (k1_pay37 x0 x1 x2 x3 x4 x5 x6 x7 x8 x9 x10 x11 x12 x13 x14 x15 x16 x17 x18 x19 x20 x21) (k1_pay38 x0 x1 x2 x3 x4 x5 x6 x7 x8 x9 x10 x11 x12 x13 x14 x15 x16 x17 x18 x19 x20 x21) (k1_pay7 (F := F)) (k1_pay40 x0 x1 x2 x3 x4 x5 x6 x7 x8 x9 x10 x11 x12 x13 x14 x15 x16 x17 x18 x19 x20 x21) (k1_pay11 (View.ld x15 r1_4)) (k1_pay12 (k1_pay35 x0 x1 x2 x3 x4 x5 x6 x7 x8 x9 x10 x11 x12 x13 x14 x15 x16 x17 x18 x19 x20 x21) (k1_pay36 x0 x1 x2 x3 x4 x5 x6 x7 x8 x9 x10 x11 x12 x13 x14 x15 x16 x17 x18 x19 x20 x21) (View.ld x15 r1_4)) (k1_pay13 (k1_pay35 x0 x1 x2 x3 x4 x5 x6 x7 x8 x9 x10 x11 x12 x13 x14 x15 x16 x17 x18 x19 x20 x21) (k1_pay36 x0 x1 x2 x3 x4 x5 x6 x7 x8 x9 x10 x11 x12 x13 x14 x15 x16 x17 x18 x19 x20 x21) (k1_pay39 x0 x1 x2 x3 x4 x5 x6 x7 x8 x9 x10 x11 x12 x13 x14 x15 x16 x17 x18 x19 x20 x21) (View.ld x15 r1_4) (View.ld x16 r1_3) (View.ld x20 r1_3) (View.ld x17 r1_3) (View.ld x19 r1_3))) (k1_pay41 x0 x1 x2 x3 x4 x5 x6 x7 x8 x9 x10 x11 x12 x13 x14 x15 x16 x17 x18 x19 x20 x21) (k1_pay16 (k1_pay35 x0 x1 x2 x3 x4 x5 x6 x7 x8 x9 x10 x11 x12 x13 x14 x15 x16 x17 x18 x19 x20 x21) (k1_pay36 x0 x1 x2 x3 x4 x5 x6 x7 x8 x9 x10 x11 x12 x13 x14 x15 x16 x17 x18 x19 x20 x21) (View.ld x15 r1_5)) (k1_pay42 x0 x1 x2 x3 x4 x5 x6 x7 x8 x9 x10 x11 x12 x13 x14 x15 x16 x17 x18 x19 x20 x21) (k1_pay43 x0 x1 x2 x3 x4 x5 x6 x7 x8 x9 x10 x11 x12 x13 x14 x15 x16 x17 x18 x19 x20 x21) (View.ld x17 r1_3) (View.ld x19 r1_3)) (k1_pay21 (k1_pay38 x0 x1 x2 x3 x4 x5 x6 x7 x8 x9 x10 x11 x12 x13 x14 x15 x16 x17 x18 x19 x20 x21) (k1_pay41 x0 x1 x2 x3 x4 x5 x6 x7 x8 x9 x10 x11 x12 x13 x14 x15 x16 x17 x18 x19 x20 x21) (k1_pay42 x0 x1 x2 x3 x4 x5 x6 x7 x8 x9 x10 x11 x12 x13 x14 x15 x16 x17 x18 x19 x20 x21) (k1_pay43 x0 x1 x2 x3 x4 x5 x6 x7 x8 x9 x10 x11 x12 x13 x14 x15 x16 x17 x18 x19 x20 x21) (View.ld x17 r1_3) (View.ld x19 r1_3))) (k1_pay23 (View.ld x15 r1_6)) (k1_pay24 (k1_pay35 x0 x1 x2 x3 x4 x5 x6 x7 x8 x9 x10 x11 x12 x13 x14 x15 x16 x17 x18 x19 x20 x21) (k1_pay36 x0 x1 x2 x3 x4 x5 x6 x7 x8 x9 x10 x11 x12 x13 x14 x15 x16 x17 x18 x19 x20 x21) (View.ld x15 r1_6)) (k1_pay25 (k1_pay35 x0 x1 x2 x3 x4 x5 x6 x7 x8 x9 x10 x11 x12 x13 x14 x15 x16 x17 x18 x19 x20 x21) (k1_pay36 x0 x1 x2 x3 x4 x5 x6 x7 x8 x9 x10 x11 x12 x13 x14 x15 x16 x17 x18 x19 x20 x21) (k1_pay39 x0 x1 x2 x3 x4 x5 x6 x7 x8 x9 x10 x11 x12 x13 x14 x15 x16 x17 x18 x19 x20 x21) (View.ld x15 r1_6) (View.ld x16 r1_3) (View.ld x20 r1_3) (View.ld x17 r1_3) (View.ld x19 r1_3))) (k1_pay27 (View.ld x15 r1_7)) (k1_pay28 (k1_pay35 x0 x1 x2 x3 x4 x5 x6 x7 x8 x9 x10 x11 x12 x13 x14 x15 x16 x17 x18 x19 x20 x21) (k1_pay36 x0 x1 x2 x3 x4 x5 x6 x7 x8 x9 x10 x11 x12 x13 x14 x15 x16 x17 x18 x19 x20 x21) (View.ld x15 r1_7)) (k1_pay29 (k1_pay35 x0 x1 x2 x3 x4 x5 x6 x7 x8 x9 x10 x11 x12 x13 x14 x15 x16 x17 x18 x19 x20 x21) (k1_pay36 x0 x1 x2 x3 x4 x5 x6 x7 x8 x9 x10 x11 x12 x13 x14 x15 x16 x17 x18 x19 x20 x21) (k1_pay39 x0 x1 x2 x3 x4 x5 x6 x7 x8 x9 x10 x11 x12 x13 x14 x15 x16 x17 x18 x19 x20 x21) (View.ld x15 r1_7) (View.ld x16 r1_3)) (k1_pay30 (k1_pay35 x0 x1 x2 x3 x4 x5 x6 x7 x8 x9 x10 x11 x12 x13 x14 x15 x16 x17 x18 x19 x20 x21) (k1_pay36 x0 x1 x2 x3 x4 x5 x6 x7 x8 x9 x10 x11 x12 x13 x14 x15 x16 x17 x18 x19 x20 x21) (k1_pay39 x0 x1 x2 x3 x4 x5 x6 x7 x8 x9 x10 x11 x12 x13 x14 x15 x16 x17 x18 x19 x20 x21) (View.ld x15 r1_7) (View.ld x16 r1_3) (View.ld x20 r1_3)) (View.ld x17 r1_3) (View.ld x19 r1_3) -- `v299`

def out1_22 (x0 : Vec F S384x64 .f32) (x1 : Vec F S1x384x64 .f32) (x2 : Vec F S64x64 .f32) (x3 : Vec F S64x64 .f32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S256x64 .f32) (x12 : Vec F S1x256 .f32) (x13 : Vec F S64x256 .f32) (x14 : Vec F S1x64 .f32) (x15 : Vec F S4x64 .f32) (x16 : Vec F S384x384 .f32) (x17 : Vec F S384x384 .f32) (x18 : Vec F S384x384 .f32) (x19 : Vec F S384x384 .f32) (x20 : Vec F S384x384 .f32) (x21 : Vec F S384x64 .f32) : Vec F S384x64 .f32 :=
  View.canon [⟨r1_0, k1_pay1 (k1_pay32 (k1_pay34 x0 x1 x2 x3 x4 x5 x6 x7 x8 x9 x10 x11 x12 x13 x14 x15 x16 x17 x18 x19 x20 x21) (k1_pay44 x0 x1 x2 x3 x4 x5 x6 x7 x8 x9 x10 x11 x12 x13 x14 x15 x16 x17 x18 x19 x20 x21) (View.ld x5 r1_2) (View.ld x6 r1_8) (View.ld x7 r1_8) (View.ld x8 r1_8)) (k1_pay33 (k1_pay34 x0 x1 x2 x3 x4 x5 x6 x7 x8 x9 x10 x11 x12 x13 x14 x15 x16 x17 x18 x19 x20 x21) (k1_pay44 x0 x1 x2 x3 x4 x5 x6 x7 x8 x9 x10 x11 x12 x13 x14 x15 x16 x17 x18 x19 x20 x21) (View.ld x5 r1_2) (View.ld x6 r1_8) (View.ld x7 r1_8) (View.ld x8 r1_8) (View.ld x11 r1_9) (View.ld x12 r1_10)) (View.ld x13 r1_11) (View.ld x14 r1_8) (View.ld x9 r1_8) (View.ld x10 r1_8)⟩]

/-- Its stores tile the buffer (checked by evaluation), so they cover it. -/
theorem cover1_22 (p0 : Vec F S384x64 .f32) (y : S384x64.Idx) :
    ∃ pc ∈ ([⟨r1_0, p0⟩] : List (View.Piece (Elt F) S384x64 .f32)), y ∈ pc.1.set :=
  View.cover_of_tiled [⟨r1_0, p0⟩] S384x64.size (by rfl) y

set_option maxHeartbeats 1000000 in
theorem sound_kernel1 (c : Dev nD) (E : Set ℕ) (i : grid1.Coords) (arg1 : Memref sig .tc .vmem S384x64 .f32) (harg1 : arg1.IsWhole) (arg2 : Memref sig .tc .vmem S1x384x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S256x64 .f32) (harg12 : arg12.IsWhole) (arg13 : Memref sig .tc .vmem S1x256 .f32) (harg13 : arg13.IsWhole) (arg14 : Memref sig .tc .vmem S64x256 .f32) (harg14 : arg14.IsWhole) (arg15 : Memref sig .tc .vmem S1x64 .f32) (harg15 : arg15.IsWhole) (arg16 : Memref sig .tc .vmem S4x64 .f32) (harg16 : arg16.IsWhole) (arg17 : Memref sig .tc .vmem S384x384 .f32) (harg17 : arg17.IsWhole) (arg18 : Memref sig .tc .vmem S384x384 .f32) (harg18 : arg18.IsWhole) (arg19 : Memref sig .tc .vmem S384x384 .f32) (harg19 : arg19.IsWhole) (arg20 : Memref sig .tc .vmem S384x384 .f32) (harg20 : arg20.IsWhole) (arg21 : Memref sig .tc .vmem S384x384 .f32) (harg21 : arg21.IsWhole) (arg22 : Memref sig .tc .vmem S384x64 .f32) (harg22 : arg22.IsWhole) (arg23 : Memref sig .tc .vmem S384x64 .f32) (harg23 : arg23.IsWhole)
    (x0 : Vec F S384x64 .f32) (x1 : Vec F S1x384x64 .f32) (x2 : Vec F S64x64 .f32) (x3 : Vec F S64x64 .f32) (x4 : Vec F S64x64 .f32) (x5 : Vec F S64x64 .f32) (x6 : Vec F S1x64 .f32) (x7 : Vec F S1x64 .f32) (x8 : Vec F S1x64 .f32) (x9 : Vec F S1x64 .f32) (x10 : Vec F S1x64 .f32) (x11 : Vec F S256x64 .f32) (x12 : Vec F S1x256 .f32) (x13 : Vec F S64x256 .f32) (x14 : Vec F S1x64 .f32) (x15 : Vec F S4x64 .f32) (x16 : Vec F S384x384 .f32) (x17 : Vec F S384x384 .f32) (x18 : Vec F S384x384 .f32) (x19 : Vec F S384x384 .f32) (x20 : Vec F S384x384 .f32) (x21 : Vec F S384x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare (out1_22 x0 x1 x2 x3 x4 x5 x6 x7 x8 x9 x10 x11 x12 x13 x14 x15 x16 x17 x18 x19 x20 x21)) -∗ K ⟨⟩))
      ⊢ wp frame (wpE (defs₀ (F := F)) Variants.none c none) E (cc1__main_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc1__main_body_eq_skeleton]; unfold cc1__main_body_skel
  simp only [k1_part1_eq_skeleton, k1_part2_eq_skeleton, k1_part3_eq_skeleton, k1_part4_eq_skeleton, k1_part5_eq_skeleton, k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, Hk⟩
  subst hf0 hf1 hf2 hf3 hf4 hf5 hf6 hf7 hf8 hf9 hf10 hf11 hf12 hf13 hf14 hf15 hf16 hf17 hf18 hf19 hf20 hf21
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  iexists _; isplitr
  swap; · iexact H22
  ipureintro
  refine (View.read_writes_eq_canon _ _ _ (cover1_22 _)).trans ?_
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => out1_22 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t)
    | ⟨_ + 23, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = out1_22 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
theorem before1_16 (c : Dev nD) (t : Fin cfg1.N) (d) : (dat1 V c).before 16 t d = iblk1 V c 16 t :=
  before1_16_of V (dat1 V c) (A_eq1 V c 16) (after1_16 V c) t d
theorem before1_17 (c : Dev nD) (t : Fin cfg1.N) (d) : (dat1 V c).before 17 t d = iblk1 V c 17 t :=
  before1_17_of V (dat1 V c) (A_eq1 V c 17) (after1_17 V c) t d
theorem before1_18 (c : Dev nD) (t : Fin cfg1.N) (d) : (dat1 V c).before 18 t d = iblk1 V c 18 t :=
  before1_18_of V (dat1 V c) (A_eq1 V c 18) (after1_18 V c) t d
theorem before1_19 (c : Dev nD) (t : Fin cfg1.N) (d) : (dat1 V c).before 19 t d = iblk1 V c 19 t :=
  before1_19_of V (dat1 V c) (A_eq1 V c 19) (after1_19 V c) t d
theorem before1_20 (c : Dev nD) (t : Fin cfg1.N) (d) : (dat1 V c).before 20 t d = iblk1 V c 20 t :=
  before1_20_of V (dat1 V c) (A_eq1 V c 20) (after1_20 V c) t d
theorem before1_21 (c : Dev nD) (t : Fin cfg1.N) (d) : (dat1 V c).before 21 t d = iblk1 V c 21 t :=
  before1_21_of V (dat1 V c) (A_eq1 V c 21) (after1_21 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ owns (c : Thread nD τ) (st1_22 t) fullShare ((dat1 V c).after 22 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel1 c Set.univ (grid1.coords t) _ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

-- twenty-three windows on each side
set_option maxHeartbeats 1000000 in
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Whole

end
-- ==== Proof.KernelIdealRun.lean ====
/- The run of `KernelIdeal`: the buffer contents at every boundary between its stretches of host operations and its regions,
   and the launch over them. -/
module

public import proofs.«01_k».proof.Proof.KernelIdealRegions
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_c, main_cst, main_v0, main_v1, main_v2, main_v3, main_cst_0, main_cst_1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_v4]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v5, main_cst_2, main_v6, main_v7, main_v8, main_v9, main_v10, main_v11, main_v12, main_cst_3, main_cst_4]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_call1_v1, main_v13]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays (checked: each argument against each reference it writes). -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_v14, main_v15, main_v16, main_cst_5]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays (checked: each argument against each reference it writes). -/
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- The reference each operation of `hostOps0_5` writes, in order. -/
abbrev hostOps0_5_W : List (Ref sig .tc) := [main_call2_v0, main_call2_v1, main_v17]
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes none of the argument arrays (checked: each argument against each reference it writes). -/
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- The reference each operation of `hostOps0_6` writes, in order. -/
abbrev hostOps0_6_W : List (Ref sig .tc) := [main_cst_6, main_v18, main_v19, main_v20, main_cst_7, main_cst_8]
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes none of the argument arrays (checked: each argument against each reference it writes). -/
theorem hostOps0_6_args : ∀ a ∈ argRefs, a ∉ hostOps0_6_W := ListAll.forall_mem_of_all_decide (by decide +kernel)

/-- No operation of `hostOps0_7` allocates a buffer. -/
theorem hostOps0_7_fresh : (hostOps0_7 : List (HloOp τ sig (Elt F))).Forall fun op => op.fresh = ∅ := by
  simp only [List.Forall]; repeat' constructor
/-- The reference each operation of `hostOps0_7` writes, in order. -/
abbrev hostOps0_7_W : List (Ref sig .tc) := [main_call3_v0, main_call3_v1, main_v21]
theorem hostOps0_7_writes : (hostOps0_7 : List (HloOp τ sig (Elt F))).Forall fun op => op.writes ⊆ (hostOps0_7_W.map (Proc.devRef (τ := τ) .tc)).toFinset :=
  StableHlo.forall_writes_sub_of_map rfl
/-- `hostOps0_7` writes none of the argument arrays (checked: each argument against each reference it writes). -/
theorem hostOps0_7_args : ∀ a ∈ argRefs, a ∉ hostOps0_7_W := ListAll.forall_mem_of_all_decide (by decide +kernel)

/-- No operation of `hostOps0_8` allocates a buffer. -/
theorem hostOps0_8_fresh : (hostOps0_8 : List (HloOp τ sig (Elt F))).Forall fun op => op.fresh = ∅ := by
  simp only [List.Forall]; repeat' constructor
/-- The reference each operation of `hostOps0_8` writes, in order. -/
abbrev hostOps0_8_W : List (Ref sig .tc) := [main_v22, main_v23, main_cst_9, main_cst_10]
theorem hostOps0_8_writes : (hostOps0_8 : List (HloOp τ sig (Elt F))).Forall fun op => op.writes ⊆ (hostOps0_8_W.map (Proc.devRef (τ := τ) .tc)).toFinset :=
  StableHlo.forall_writes_sub_of_map rfl
/-- `hostOps0_8` writes none of the argument arrays (checked: each argument against each reference it writes). -/
theorem hostOps0_8_args : ∀ a ∈ argRefs, a ∉ hostOps0_8_W := ListAll.forall_mem_of_all_decide (by decide +kernel)

/-- No operation of `hostOps0_9` allocates a buffer. -/
theorem hostOps0_9_fresh : (hostOps0_9 : List (HloOp τ sig (Elt F))).Forall fun op => op.fresh = ∅ := by
  simp only [List.Forall]; repeat' constructor
/-- The reference each operation of `hostOps0_9` writes, in order. -/
abbrev hostOps0_9_W : List (Ref sig .tc) := [main_call4_v0, main_call4_v1, main_v24]
theorem hostOps0_9_writes : (hostOps0_9 : List (HloOp τ sig (Elt F))).Forall fun op => op.writes ⊆ (hostOps0_9_W.map (Proc.devRef (τ := τ) .tc)).toFinset :=
  StableHlo.forall_writes_sub_of_map rfl
/-- `hostOps0_9` writes none of the argument arrays (checked: each argument against each reference it writes). -/
theorem hostOps0_9_args : ∀ a ∈ argRefs, a ∉ hostOps0_9_W := ListAll.forall_mem_of_all_decide (by decide +kernel)

/-- No operation of `hostOps0_10` allocates a buffer. -/
theorem hostOps0_10_fresh : (hostOps0_10 : List (HloOp τ sig (Elt F))).Forall fun op => op.fresh = ∅ := by
  simp only [List.Forall]; repeat' constructor
/-- The reference each operation of `hostOps0_10` writes, in order. -/
abbrev hostOps0_10_W : List (Ref sig .tc) := [main_v25, main_v26, main_v27, main_cst_11, main_cst_12]
theorem hostOps0_10_writes : (hostOps0_10 : List (HloOp τ sig (Elt F))).Forall fun op => op.writes ⊆ (hostOps0_10_W.map (Proc.devRef (τ := τ) .tc)).toFinset :=
  StableHlo.forall_writes_sub_of_map rfl
/-- `hostOps0_10` writes none of the argument arrays (checked: each argument against each reference it writes). -/
theorem hostOps0_10_args : ∀ a ∈ argRefs, a ∉ hostOps0_10_W := ListAll.forall_mem_of_all_decide (by decide +kernel)

/-- No operation of `hostOps0_11` allocates a buffer. -/
theorem hostOps0_11_fresh : (hostOps0_11 : List (HloOp τ sig (Elt F))).Forall fun op => op.fresh = ∅ := by
  simp only [List.Forall]; repeat' constructor
/-- The reference each operation of `hostOps0_11` writes, in order. -/
abbrev hostOps0_11_W : List (Ref sig .tc) := [main_call5_v0, main_call5_v1, main_v28]
theorem hostOps0_11_writes : (hostOps0_11 : List (HloOp τ sig (Elt F))).Forall fun op => op.writes ⊆ (hostOps0_11_W.map (Proc.devRef (τ := τ) .tc)).toFinset :=
  StableHlo.forall_writes_sub_of_map rfl
/-- `hostOps0_11` writes none of the argument arrays (checked: each argument against each reference it writes). -/
theorem hostOps0_11_args : ∀ a ∈ argRefs, a ∉ hostOps0_11_W := ListAll.forall_mem_of_all_decide (by decide +kernel)

/-- No operation of `hostOps0_12` allocates a buffer. -/
theorem hostOps0_12_fresh : (hostOps0_12 : List (HloOp τ sig (Elt F))).Forall fun op => op.fresh = ∅ := by
  simp only [List.Forall]; repeat' constructor
/-- The reference each operation of `hostOps0_12` writes, in order. -/
abbrev hostOps0_12_W : List (Ref sig .tc) := [main_v29, main_v30, main_v31, main_v32]
theorem hostOps0_12_writes : (hostOps0_12 : List (HloOp τ sig (Elt F))).Forall fun op => op.writes ⊆ (hostOps0_12_W.map (Proc.devRef (τ := τ) .tc)).toFinset :=
  StableHlo.forall_writes_sub_of_map rfl
/-- `hostOps0_12` writes none of the argument arrays (checked: each argument against each reference it writes). -/
theorem hostOps0_12_args : ∀ a ∈ argRefs, a ∉ hostOps0_12_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v34, main_v35, main_v36, main_v37, main_v38, main_v39, main_v40, main_v41]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v43]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6`. -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- After `hostOps0_7`. -/
abbrev W8 : Dev nD → Valuation τ sig (Elt F) := fun c => StableHlo.after hostOps0_7 (W7 m ρ c)
/-- A reference `hostOps0_7` does not write keeps its contents across it. -/
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
/-- After `hostOps0_8`. -/
abbrev W9 : Dev nD → Valuation τ sig (Elt F) := fun c => StableHlo.after hostOps0_8 (W8 m ρ c)
/-- A reference `hostOps0_8` does not write keeps its contents across it. -/
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)
/-- After `hostOps0_9`. -/
abbrev W10 : Dev nD → Valuation τ sig (Elt F) := fun c => StableHlo.after hostOps0_9 (W9 m ρ c)
/-- A reference `hostOps0_9` does not write keeps its contents across it. -/
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W10_args (c : Dev nD) : ∀ a ∈ argRefs, W10 m ρ c (Proc.devRef .tc a) = m ((c : Thread nD τ).loc a) :=
  fun a ha => (W10_of m ρ c a (hostOps0_9_args a ha)).trans (W9_args m ρ c a ha)
/-- After `hostOps0_10`. -/
abbrev W11 : Dev nD → Valuation τ sig (Elt F) := fun c => StableHlo.after hostOps0_10 (W10 m ρ c)
/-- A reference `hostOps0_10` does not write keeps its contents across it. -/
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W11_args (c : Dev nD) : ∀ a ∈ argRefs, W11 m ρ c (Proc.devRef .tc a) = m ((c : Thread nD τ).loc a) :=
  fun a ha => (W11_of m ρ c a (hostOps0_10_args a ha)).trans (W10_args m ρ c a ha)
/-- After `hostOps0_11`. -/
abbrev W12 : Dev nD → Valuation τ sig (Elt F) := fun c => StableHlo.after hostOps0_11 (W11 m ρ c)
/-- A reference `hostOps0_11` does not write keeps its contents across it. -/
theorem W12_of (c : Dev nD) (r : Ref sig .tc) (h : r ∉ hostOps0_11_W) : W12 m ρ c (Proc.devRef .tc r) = W11 m ρ c (Proc.devRef .tc r) :=
  StableHlo.after_of_writes_sub hostOps0_11 _ hostOps0_11_writes h
theorem W12_args (c : Dev nD) : ∀ a ∈ argRefs, W12 m ρ c (Proc.devRef .tc a) = m ((c : Thread nD τ).loc a) :=
  fun a ha => (W12_of m ρ c a (hostOps0_11_args a ha)).trans (W11_args m ρ c a ha)
/-- After `hostOps0_12` (region 0's entry). -/
abbrev W13 : Dev nD → Valuation τ sig (Elt F) := fun c => StableHlo.after hostOps0_12 (W12 m ρ c)
/-- A reference `hostOps0_12` does not write keeps its contents across it. -/
theorem W13_of (c : Dev nD) (r : Ref sig .tc) (h : r ∉ hostOps0_12_W) : W13 m ρ c (Proc.devRef .tc r) = W12 m ρ c (Proc.devRef .tc r) :=
  StableHlo.after_of_writes_sub hostOps0_12 _ hostOps0_12_writes h
theorem W13_args (c : Dev nD) : ∀ a ∈ argRefs, W13 m ρ c (Proc.devRef .tc a) = m ((c : Thread nD τ).loc a) :=
  fun a ha => (W13_of m ρ c a (hostOps0_12_args a ha)).trans (W12_args m ρ c a ha)
/-- The same read at the TensorCore's references (what region 0's proof data take). -/
abbrev V13 : (c : Dev nD) → (b : Ref sig .tc) → Buf (Elt F) ((c : Thread nD τ).loc b) := fun c b => W13 m ρ c b
def W14 (c : Dev nD) : Valuation τ sig (Elt F) :=
  Pipeline.withArrays spec0 c (W13 m ρ c) fun w => (dat0 (V13 m ρ) c).arrAt w cfg0.N
theorem W14_arr (c : Dev nD) (w : Fin cfg0.W) :
    W14 m ρ c (Proc.devRef .tc (Pipeline.arrRef spec0 w)) = (dat0 (V13 m ρ) c).arrAt w cfg0.N := by
  unfold W14; exact Pipeline.withArrays_arr spec0 launch0.win.arr_inj c _ _ w
theorem W14_of_ne (c : Dev nD) (b : Ref sig .tc) (hb : ∀ w, Pipeline.arrRef spec0 w ≠ b) :
    W14 m ρ c (Proc.devRef .tc b) = W13 m ρ c (Proc.devRef .tc b) := by
  unfold W14; exact Pipeline.withArrays_of_ne spec0 c _ _ b hb
theorem W14_of (c : Dev nD) (r : Ref sig .tc) (h : ∀ w : Fin cfg0.W, Pipeline.arrRef spec0 w = r → (cfg0.win w).isOut = false) :
    W14 m ρ c (Proc.devRef .tc r) = W13 m ρ c (Proc.devRef .tc r) := by
  by_cases hw : ∃ w : Fin cfg0.W, Pipeline.arrRef spec0 w = r
  · obtain ⟨w, rfl⟩ := hw
    exact (W14_arr m ρ c w).trans (((dat0 (V13 m ρ) c).arrAt_in w (h w rfl) _).trans (A_eq0 (V13 m ρ) c w))
  · exact W14_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn0 a ha)).trans (W13_args m ρ c a ha)
/-- The same read at the TensorCore's references (region 0's exit contents). -/
abbrev V14 : (c : Dev nD) → (b : Ref sig .tc) → Buf (Elt F) ((c : Thread nD τ).loc b) := fun c b => W14 m ρ c b
theorem hF0 (c : Dev nD) (w : Fin cfg0.W) : (dat0 (V13 m ρ) c).arrAt w cfg0.N = V14 m ρ c (Pipeline.arrRef spec0 w) :=
  (W14_arr m ρ c w).symm
theorem hrest0 (c : Dev nD) : ∀ b, b ∉ Finset.univ.image (Pipeline.arrRef spec0) → V14 m ρ c b = V13 m ρ c b :=
  fun b hb => W14_of_ne m ρ c b fun w e => hb (Finset.mem_image.mpr ⟨w, Finset.mem_univ _, e⟩)

/-- After `hostOps1` (region 1's entry). -/
abbrev W15 : Dev nD → Valuation τ sig (Elt F) := fun c => StableHlo.after hostOps1 (W14 m ρ c)
/-- A reference `hostOps1` does not write keeps its contents across it. -/
theorem W15_of (c : Dev nD) (r : Ref sig .tc) (h : r ∉ hostOps1_W) : W15 m ρ c (Proc.devRef .tc r) = W14 m ρ c (Proc.devRef .tc r) :=
  StableHlo.after_of_writes_sub hostOps1 _ hostOps1_writes h
theorem W15_args (c : Dev nD) : ∀ a ∈ argRefs, W15 m ρ c (Proc.devRef .tc a) = m ((c : Thread nD τ).loc a) :=
  fun a ha => (W15_of m ρ c a (hostOps1_args a ha)).trans (W14_args m ρ c a ha)
/-- The same read at the TensorCore's references (what region 1's proof data take). -/
abbrev V15 : (c : Dev nD) → (b : Ref sig .tc) → Buf (Elt F) ((c : Thread nD τ).loc b) := fun c b => W15 m ρ c b
def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
theorem W16_of (c : Dev nD) (r : Ref sig .tc) (h : ∀ w : Fin cfg1.W, Pipeline.arrRef spec1 w = r → (cfg1.win w).isOut = false) :
    W16 m ρ c (Proc.devRef .tc r) = W15 m ρ c (Proc.devRef .tc r) := by
  by_cases hw : ∃ w : Fin cfg1.W, Pipeline.arrRef spec1 w = r
  · obtain ⟨w, rfl⟩ := hw
    exact (W16_arr m ρ c w).trans (((dat1 (V15 m ρ) c).arrAt_in w (h w rfl) _).trans (A_eq1 (V15 m ρ) c w))
  · exact W16_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W16_args (c : Dev nD) : ∀ a ∈ argRefs, W16 m ρ c (Proc.devRef .tc a) = m ((c : Thread nD τ).loc a) :=
  fun a ha => (W16_of m ρ c a (argsIn1 a ha)).trans (W15_args m ρ c a ha)
/-- The same read at the TensorCore's references (region 1's exit contents). -/
abbrev V16 : (c : Dev nD) → (b : Ref sig .tc) → Buf (Elt F) ((c : Thread nD τ).loc b) := fun c b => W16 m ρ c b
theorem hF1 (c : Dev nD) (w : Fin cfg1.W) : (dat1 (V15 m ρ) c).arrAt w cfg1.N = V16 m ρ c (Pipeline.arrRef spec1 w) :=
  (W16_arr m ρ c w).symm
theorem hrest1 (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)

/-- After `hostOps2`. -/
abbrev W17 : Dev nD → Valuation τ sig (Elt F) := fun c => StableHlo.after hostOps2 (W16 m ρ c)
/-- A reference `hostOps2` does not write keeps its contents across it. -/
theorem W17_of (c : Dev nD) (r : Ref sig .tc) (h : r ∉ hostOps2_W) : W17 m ρ c (Proc.devRef .tc r) = W16 m ρ c (Proc.devRef .tc r) :=
  StableHlo.after_of_writes_sub hostOps2 _ hostOps2_writes h
theorem W17_args (c : Dev nD) : ∀ a ∈ argRefs, W17 m ρ c (Proc.devRef .tc a) = m ((c : Thread nD τ).loc a) :=
  fun a ha => (W17_of m ρ c a (hostOps2_args a ha)).trans (W16_args m ρ c a ha)

theorem W17_main_arg0 (c : Dev nD) : W17 m ρ c (Proc.devRef .tc main_arg0) = m ((c : Thread nD τ).loc main_arg0) :=
  W17_args m ρ c main_arg0 (by decide)
theorem W17_main_arg1 (c : Dev nD) : W17 m ρ c (Proc.devRef .tc main_arg1) = m ((c : Thread nD τ).loc main_arg1) :=
  W17_args m ρ c main_arg1 (by decide)
theorem W17_main_arg2 (c : Dev nD) : W17 m ρ c (Proc.devRef .tc main_arg2) = m ((c : Thread nD τ).loc main_arg2) :=
  W17_args m ρ c main_arg2 (by decide)
theorem W17_main_arg3 (c : Dev nD) : W17 m ρ c (Proc.devRef .tc main_arg3) = m ((c : Thread nD τ).loc main_arg3) :=
  W17_args m ρ c main_arg3 (by decide)
theorem W17_main_arg4 (c : Dev nD) : W17 m ρ c (Proc.devRef .tc main_arg4) = m ((c : Thread nD τ).loc main_arg4) :=
  W17_args m ρ c main_arg4 (by decide)
theorem W17_main_arg5 (c : Dev nD) : W17 m ρ c (Proc.devRef .tc main_arg5) = m ((c : Thread nD τ).loc main_arg5) :=
  W17_args m ρ c main_arg5 (by decide)
theorem W17_main_arg6 (c : Dev nD) : W17 m ρ c (Proc.devRef .tc main_arg6) = m ((c : Thread nD τ).loc main_arg6) :=
  W17_args m ρ c main_arg6 (by decide)
theorem W17_main_arg7 (c : Dev nD) : W17 m ρ c (Proc.devRef .tc main_arg7) = m ((c : Thread nD τ).loc main_arg7) :=
  W17_args m ρ c main_arg7 (by decide)
theorem W17_main_arg8 (c : Dev nD) : W17 m ρ c (Proc.devRef .tc main_arg8) = m ((c : Thread nD τ).loc main_arg8) :=
  W17_args m ρ c main_arg8 (by decide)
theorem W17_main_arg9 (c : Dev nD) : W17 m ρ c (Proc.devRef .tc main_arg9) = m ((c : Thread nD τ).loc main_arg9) :=
  W17_args m ρ c main_arg9 (by decide)
theorem W17_main_arg10 (c : Dev nD) : W17 m ρ c (Proc.devRef .tc main_arg10) = m ((c : Thread nD τ).loc main_arg10) :=
  W17_args m ρ c main_arg10 (by decide)
theorem W17_main_arg11 (c : Dev nD) : W17 m ρ c (Proc.devRef .tc main_arg11) = m ((c : Thread nD τ).loc main_arg11) :=
  W17_args m ρ c main_arg11 (by decide)
theorem W17_main_arg12 (c : Dev nD) : W17 m ρ c (Proc.devRef .tc main_arg12) = m ((c : Thread nD τ).loc main_arg12) :=
  W17_args m ρ c main_arg12 (by decide)
theorem W17_main_arg13 (c : Dev nD) : W17 m ρ c (Proc.devRef .tc main_arg13) = m ((c : Thread nD τ).loc main_arg13) :=
  W17_args m ρ c main_arg13 (by decide)
theorem W17_main_arg14 (c : Dev nD) : W17 m ρ c (Proc.devRef .tc main_arg14) = m ((c : Thread nD τ).loc main_arg14) :=
  W17_args m ρ c main_arg14 (by decide)
theorem W17_main_arg15 (c : Dev nD) : W17 m ρ c (Proc.devRef .tc main_arg15) = m ((c : Thread nD τ).loc main_arg15) :=
  W17_args m ρ c main_arg15 (by decide)
theorem W17_main_arg16 (c : Dev nD) : W17 m ρ c (Proc.devRef .tc main_arg16) = m ((c : Thread nD τ).loc main_arg16) :=
  W17_args m ρ c main_arg16 (by decide)
theorem W17_main_arg17 (c : Dev nD) : W17 m ρ c (Proc.devRef .tc main_arg17) = m ((c : Thread nD τ).loc main_arg17) :=
  W17_args m ρ c main_arg17 (by decide)
theorem W17_main_arg18 (c : Dev nD) : W17 m ρ c (Proc.devRef .tc main_arg18) = m ((c : Thread nD τ).loc main_arg18) :=
  W17_args m ρ c main_arg18 (by decide)
theorem W17_main_arg19 (c : Dev nD) : W17 m ρ c (Proc.devRef .tc main_arg19) = m ((c : Thread nD τ).loc main_arg19) :=
  W17_args m ρ c main_arg19 (by decide)

/-- The prefetched tables' admissible contents: no pipeline has a table. -/
abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V13 m ρ) c
  | ⟨1, _⟩ => fun c => dat1 (V15 m ρ) c
abbrev 𝒱₀ : Variants := Variants.none
/-- No core owes another anything: no level is assigned. -/
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m ρ c) ∗ ∃ r, prngReg c r)

-- `iapply` of a library lemma stated over `pin pcs a p` unifies with the pinned configuration only when unification may
-- unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V13 m ρ) c).loose
  hwaits := Pipeline.hwaits_of_owed_zero _ _ _ _ L lv 0 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec0 c (V13 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V13 m ρ c) (A_eq0 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V13 m ρ c) (V14 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) (A_eq1 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's 17 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .region (reg0 m ρ),
    .host (hseg hostOps1 hostOps1_sub hostOps1_fresh (W14 m ρ)),
    .region (reg1 m ρ),
    .host (hseg hostOps2 hostOps2_sub hostOps2_fresh (W16 m ρ)) ]
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the implicit arguments are found by unifying the conclusion with this one
set_option backward.isDefEq.respectTransparency.types false in
/-- Every run terminates, and ends with each buffer at the last boundary's contents and every counter at zero. -/
theorem held_run : θ_run defs (onTc (τ := τ) (main (F := F))) ⟨m, fun _ => 0, ρ⟩ (fun r => (∀ c : Dev nD, ∀ b ∈ Pipeline.ucRefs τ sig,
      r.2.mem (((c : Thread nD τ)).1, b) = W17 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h hz => ⟨h, funext fun g => hz g (.inr (no_unscoped g.2))⟩)

/-- The argument arrays end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun _ h => ⟨(fun c =>
      ⟨(h.1 c _ (mem_uc main_arg0 (by decide))).trans (W17_main_arg0 m ρ c),
       (h.1 c _ (mem_uc main_arg1 (by decide))).trans (W17_main_arg1 m ρ c),
       (h.1 c _ (mem_uc main_arg2 (by decide))).trans (W17_main_arg2 m ρ c),
       (h.1 c _ (mem_uc main_arg3 (by decide))).trans (W17_main_arg3 m ρ c),
       (h.1 c _ (mem_uc main_arg4 (by decide))).trans (W17_main_arg4 m ρ c),
       (h.1 c _ (mem_uc main_arg5 (by decide))).trans (W17_main_arg5 m ρ c),
       (h.1 c _ (mem_uc main_arg6 (by decide))).trans (W17_main_arg6 m ρ c),
       (h.1 c _ (mem_uc main_arg7 (by decide))).trans (W17_main_arg7 m ρ c),
       (h.1 c _ (mem_uc main_arg8 (by decide))).trans (W17_main_arg8 m ρ c),
       (h.1 c _ (mem_uc main_arg9 (by decide))).trans (W17_main_arg9 m ρ c),
       (h.1 c _ (mem_uc main_arg10 (by decide))).trans (W17_main_arg10 m ρ c),
       (h.1 c _ (mem_uc main_arg11 (by decide))).trans (W17_main_arg11 m ρ c),
       (h.1 c _ (mem_uc main_arg12 (by decide))).trans (W17_main_arg12 m ρ c),
       (h.1 c _ (mem_uc main_arg13 (by decide))).trans (W17_main_arg13 m ρ c),
       (h.1 c _ (mem_uc main_arg14 (by decide))).trans (W17_main_arg14 m ρ c),
       (h.1 c _ (mem_uc main_arg15 (by decide))).trans (W17_main_arg15 m ρ c),
       (h.1 c _ (mem_uc main_arg16 (by decide))).trans (W17_main_arg16 m ρ c),
       (h.1 c _ (mem_uc main_arg17 (by decide))).trans (W17_main_arg17 m ρ c),
       (h.1 c _ (mem_uc main_arg18 (by decide))).trans (W17_main_arg18 m ρ c),
       (h.1 c _ (mem_uc main_arg19 (by decide))).trans (W17_main_arg19 m ρ c)⟩), h.2⟩) (held_run m ρ)

end Cert.KernelIdeal.Whole

end
-- ==== Proof.Spec.lean ====
/- What one slab computes: 64 rows of 64 lanes, four heads of 16 lanes, as functions on the extended reals. Both
   programs are read down to these. -/
module

public import Idealize.ShloMosaic.Lib.Pointwise

@[expose] public section

noncomputable section

open Idealize.ShloMosaic

namespace Cert.Slab

/-- A slab: rows by lanes. -/
abbrev Mat := Fin 64 → Fin 64 → EReal

/-- The programs' constants 64, 25, 1/4 and the small number under the roots. -/
def k64 : EReal := Ideal.ofBits .f32 0x42800000#32
def k25 : EReal := Ideal.ofBits .f32 0x41C80000#32
def quarter : EReal := Ideal.ofBits .f32 0x3E800000#32
def eps : EReal := Ideal.ofBits .f32 0x3727C5AC#32

/-- Lane `e` of head `h`. -/
def lane (h : Fin 4) (e : Fin 16) : Fin 64 := ⟨(h : ℕ) * 16 + (e : ℕ), by omega⟩

/-- The head a lane is in. -/
def headOf (c : Fin 64) : Fin 4 := ⟨(c : ℕ) / 16, by omega⟩

/-- Rows times a transposed matrix of weights. -/
def proj (W e : Mat) : Mat := fun t c => ∑ k : Fin 64, e t k * W c k

/-- Head `h`'s score of row `i` against row `j`. -/
def score (q k : Mat) (h : Fin 4) (i j : Fin 64) : EReal := ∑ e : Fin 16, q i (lane h e) * k j (lane h e)

/-- How far row `i`'s greatest sampled score stands above the mean of its sampled scores. -/
def meas (ix : Fin 64 → Fin 25 → Fin 64) (q k : Mat) (h : Fin 4) (i : Fin 64) : EReal :=
  Finset.univ.fold max ⊥ (fun u : Fin 25 => score q k h i (ix i u)) - Ideal.div (∑ u : Fin 25, score q k h i (ix i u)) k25

/-- How many rows stand before row `i`: the greater ones, and the equal ones of lower number. -/
def rank (m : Fin 64 → EReal) (i : Fin 64) : ℕ :=
  (Finset.univ.filter fun j : Fin 64 => m i < m j ∨ (m j = m i ∧ j < i)).card

def logit (q k : Mat) (h : Fin 4) (i j : Fin 64) : EReal := score q k h i j * quarter

def peak (q k : Mat) (h : Fin 4) (i : Fin 64) : EReal := Finset.univ.fold max ⊥ fun j : Fin 64 => logit q k h i j

def ex (q k : Mat) (h : Fin 4) (i j : Fin 64) : EReal := Ideal.exp (logit q k h i j - peak q k h i)

/-- The softmax weights of row `i`. -/
def soft (q k : Mat) (h : Fin 4) (i j : Fin 64) : EReal := Ideal.div (ex q k h i j) (∑ j' : Fin 64, ex q k h i j')

/-- The weighted mixture of the values' rows. -/
def mix (q k v : Mat) (h : Fin 4) (i c : Fin 64) : EReal := ∑ j : Fin 64, soft q k h i j * v j c

/-- The values' mean over the rows. -/
def mean (v : Mat) (c : Fin 64) : EReal := Ideal.div (∑ j : Fin 64, v j c) k64

/-- The context: the 25 best rows of each head take the mixture, the others the mean. -/
def ctx (ix : Fin 64 → Fin 25 → Fin 64) (q k v : Mat) : Mat := fun t c =>
  if rank (meas ix q k (headOf c)) t < 25 then mix q k v (headOf c) t c else mean v c

/-- One row normalised, then scaled and shifted lane by lane. -/
def norm (x w b : Fin 64 → EReal) : Fin 64 → EReal :=
  let m := Ideal.div (∑ k : Fin 64, x k) k64
  fun c => Ideal.div (x c - m) (Ideal.sqrt (Ideal.div (∑ k : Fin 64, (x k - m) * (x k - m)) k64 + eps)) * w c + b c

/-- The feed-forward layer on one row. -/
def feed (w1 : Fin 256 → Fin 64 → EReal) (b1 : Fin 256 → EReal) (w2 : Fin 64 → Fin 256 → EReal) (b2 : Fin 64 → EReal)
    (x : Fin 64 → EReal) : Fin 64 → EReal := fun c =>
  (∑ f : Fin 256, max ((∑ k : Fin 64, x k * w1 f k) + b1 f) 0 * w2 c f) + b2 c

/-- The layers' weights. -/
structure Weights where
  q : Mat
  k : Mat
  v : Mat
  o : Mat
  bo : Fin 64 → EReal
  g1 : Fin 64 → EReal
  h1 : Fin 64 → EReal
  g2 : Fin 64 → EReal
  h2 : Fin 64 → EReal
  w1 : Fin 256 → Fin 64 → EReal
  b1 : Fin 256 → EReal
  w2 : Fin 64 → Fin 256 → EReal
  b2 : Fin 64 → EReal

/-- After attention: projected context, bias and the slab itself, normalised. -/
def mid (ix : Fin 64 → Fin 25 → Fin 64) (W : Weights) (e : Mat) : Mat := fun t =>
  norm (fun c => (∑ k : Fin 64, ctx ix (proj W.q e) (proj W.k e) (proj W.v e) t k * W.o c k) + W.bo c + e t c) W.g1 W.h1

/-- The whole layer on one slab. -/
def layer (ix : Fin 64 → Fin 25 → Fin 64) (W : Weights) (e : Mat) : Mat := fun t =>
  norm (fun c => feed W.w1 W.b1 W.w2 W.b2 (mid ix W e t) c + mid ix W e t c) W.g2 W.h2

end Cert.Slab

end
-- ==== Proof.Mask.lean ====
/- Sums and maxima over 384 rows whose terms vanish outside one slab, and over 64 lanes whose terms vanish outside one
   head. -/
module

public import proofs.«01_k».proof.Proof.Spec

@[expose] public section

noncomputable section

open Idealize.ShloMosaic

namespace Cert.Slab

/-- Row `t` of slab `a` of a block of six slabs. -/
def slot (a : Fin 6) (t : Fin 64) : Fin 384 := ⟨64 * (a : ℕ) + (t : ℕ), by omega⟩

theorem slot_inj {a a' : Fin 6} {t t' : Fin 64} : slot a t = slot a' t' ↔ a = a' ∧ t = t' := by
  simp only [slot, Fin.ext_iff]; omega

theorem exists_slot (r : Fin 384) : ∃ a t, r = slot a t :=
  ⟨⟨r / 64, by omega⟩, ⟨r % 64, by omega⟩, Fin.ext (by simp only [slot]; omega)⟩

theorem slot_injective (a : Fin 6) : Function.Injective (slot a) := fun _ _ h => (slot_inj.1 h).2

theorem sum_slab (a : Fin 6) (f : Fin 384 → EReal) (h : ∀ a' t, a' ≠ a → f (slot a' t) = 0) :
    ∑ r, f r = ∑ t, f (slot a t) := by
  refine (Fintype.sum_of_injective (slot a) (slot_injective a) _ _ (fun r hr => ?_) fun _ => rfl).symm
  obtain ⟨a', t, rfl⟩ := exists_slot r
  refine h a' t fun he => hr ⟨t, ?_⟩
  rw [he]

theorem fold_max_le {ι : Type} [Fintype ι] (f : ι → EReal) (b : EReal) :
    Finset.univ.fold max ⊥ f ≤ b ↔ ∀ i, f i ≤ b := by
  rw [Finset.fold_max_le]; simp

theorem le_fold_max {ι : Type} [Fintype ι] (f : ι → EReal) (i : ι) : f i ≤ Finset.univ.fold max ⊥ f :=
  (fold_max_le f _).1 le_rfl i

/-- Two maxima agree when each term of one is below a term of the other, or is the bottom. -/
theorem fold_max_eq {ι κ : Type} [Fintype ι] [Fintype κ] (f : ι → EReal) (g : κ → EReal)
    (h : ∀ i, f i = ⊥ ∨ ∃ k, f i = g k) (h' : ∀ k, ∃ i, g k = f i) :
    Finset.univ.fold max ⊥ f = Finset.univ.fold max ⊥ g := by
  apply le_antisymm
  · rw [fold_max_le]; intro i
    rcases h i with e | ⟨k, e⟩
    · rw [e]; exact bot_le
    · rw [e]; exact le_fold_max g k
  · rw [fold_max_le]; intro k
    obtain ⟨i, e⟩ := h' k
    rw [e]; exact le_fold_max f i

theorem max_slab (a : Fin 6) (f : Fin 384 → EReal) (h : ∀ a' t, a' ≠ a → f (slot a' t) = ⊥) :
    Finset.univ.fold max ⊥ f = Finset.univ.fold max ⊥ fun t => f (slot a t) := by
  refine fold_max_eq _ _ (fun r => ?_) fun t => ⟨_, rfl⟩
  obtain ⟨a', t, rfl⟩ := exists_slot r
  by_cases e : a' = a
  · exact .inr ⟨t, by rw [e]⟩
  · exact .inl (h a' t e)

theorem headOf_lane (h : Fin 4) (e : Fin 16) : headOf (lane h e) = h := by
  simp only [headOf, lane, Fin.ext_iff]; omega

theorem exists_lane (c : Fin 64) : ∃ e, c = lane (headOf c) e :=
  ⟨⟨c % 16, by omega⟩, Fin.ext (by simp only [headOf, lane]; omega)⟩

/-- A sum over the lanes whose terms vanish outside head `h`. -/
theorem sum_head (h : Fin 4) (f : Fin 64 → EReal) (hf : ∀ c, headOf c ≠ h → f c = 0) :
    ∑ c, f c = ∑ e : Fin 16, f (lane h e) := by
  refine (Fintype.sum_of_injective (lane h) (fun e e' he => ?_) _ _ (fun c hc => ?_) fun _ => rfl).symm
  · simp only [lane, Fin.ext_iff] at he ⊢; omega
  · refine hf c fun he => hc ?_
    obtain ⟨e, hce⟩ := exists_lane c
    exact ⟨e, by rw [← he]; exact hce.symm⟩

/-! ### The constants -/

theorem k64_eq : k64 = ((64 : ℝ) : EReal) := by
  simp [k64, Ideal.ofBits, Ideal.ieee, -EReal.coe_mul]; norm_num

theorem k25_eq : k25 = ((25 : ℝ) : EReal) := by
  simp [k25, Ideal.ofBits, Ideal.ieee, -EReal.coe_mul]; norm_num

theorem quarter_eq : quarter = ((1 / 4 : ℝ) : EReal) := by
  simp [quarter, Ideal.ofBits, Ideal.ieee, -EReal.coe_mul]; norm_num

theorem eps_pos : ∃ r : ℝ, 0 < r ∧ eps = (r : EReal) := by
  refine ⟨_, ?_, by simp only [eps, Ideal.ofBits, Ideal.ieee]; rw [if_neg (by decide), if_neg (by decide)]⟩
  simp

/-! ### Sampled scores as masked ones -/

/-- How many of row `i`'s samples are row `j`. -/
def count (ix : Fin 64 → Fin 25 → Fin 64) (i j : Fin 64) : ℕ := (Finset.univ.filter fun u : Fin 25 => ix i u = j).card

theorem sum_count (ix : Fin 64 → Fin 25 → Fin 64) (i : Fin 64) (s : Fin 64 → EReal) :
    ∑ j, s j * ((count ix i j : ℕ) : EReal) = ∑ u, s (ix i u) := by
  rw [← Finset.sum_fiberwise Finset.univ (ix i) fun u => s (ix i u)]
  refine Finset.sum_congr rfl fun j _ => ?_
  rw [Finset.sum_congr rfl (g := fun _ => s j) fun u hu => by rw [(Finset.mem_filter.1 hu).2]]
  rw [Finset.sum_const, EReal.nsmul_eq_mul, mul_comm]; rfl

theorem count_pos (ix : Fin 64 → Fin 25 → Fin 64) (i j : Fin 64) : 0 < count ix i j ↔ ∃ u, ix i u = j := by
  rw [count, Finset.card_pos]
  constructor
  · rintro ⟨u, hu⟩; exact ⟨u, (Finset.mem_filter.1 hu).2⟩
  · rintro ⟨u, hu⟩; exact ⟨u, Finset.mem_filter.2 ⟨Finset.mem_univ _, hu⟩⟩

theorem max_count (ix : Fin 64 → Fin 25 → Fin 64) (i : Fin 64) (s : Fin 64 → EReal) :
    Finset.univ.fold max ⊥ (fun j => s j + if 0 < count ix i j then (0 : EReal) else ⊥)
      = Finset.univ.fold max ⊥ fun u => s (ix i u) := by
  refine fold_max_eq _ _ (fun j => ?_) fun u => ⟨ix i u, ?_⟩
  · by_cases h : 0 < count ix i j
    · obtain ⟨u, hu⟩ := (count_pos ix i j).1 h
      exact .inr ⟨u, by rw [if_pos h, hu, add_zero]⟩
    · exact .inl (by rw [if_neg h, EReal.add_bot])
  · rw [if_pos ((count_pos ix i _).2 ⟨u, rfl⟩), add_zero]

/-! ### The mean as a sum of scaled terms -/

theorem div_real (x : EReal) {r : ℝ} (h : r ≠ 0) : Ideal.div x (r : EReal) = x * ((r⁻¹ : ℝ) : EReal) := by
  rw [Ideal.div_coe h, one_div]

theorem sum_mul_real {ι : Type} (s : Finset ι) (f : ι → EReal) (r : ℝ) (h : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.2 h) (EReal.coe_ne_top r)]

/-! ### The two ways of normalising a row -/

theorem mul_self_nonneg' (x : EReal) : 0 ≤ x * x := by
  induction x with
  | bot => simp
  | top => simp
  | coe r => rw [← EReal.coe_mul]; exact EReal.coe_nonneg.2 (mul_self_nonneg r)

theorem rsqrt_eq (c y : EReal) (h : 0 ≤ y) :
    c * Ideal.rsqrt (Ideal.div y k64 + eps) = Ideal.div c (Ideal.sqrt (Ideal.div y k64 + eps)) := by
  obtain ⟨r, hr, he⟩ := eps_pos
  rw [k64_eq, he, div_real _ (by norm_num)]
  induction y with
  | bot => exact absurd h (by simp)
  | top =>
    rw [EReal.top_mul_coe_of_pos (by norm_num), EReal.top_add_coe]
    simp [Ideal.div]
  | coe y =>
    have hy : 0 ≤ y := EReal.coe_nonneg.1 h
    rw [← EReal.coe_mul, ← EReal.coe_add, Ideal.rsqrt_coe, Ideal.sqrt_coe]
    have hp : 0 < y * (64 : ℝ)⁻¹ + r := by positivity
    rw [if_neg (not_lt.2 hp.le), if_neg hp.ne', if_neg (not_lt.2 hp.le), div_real _ (Real.sqrt_pos.2 hp).ne']

end Cert.Slab

end
-- ==== Proof.Block.lean ====
/- One block of six slabs: 384 rows against 384 rows, with tables that blank what is outside a row's slab and lanes that
   blank what is outside a head, computes on each slab what the slab's own formulas say. -/
module

public import proofs.«01_k».proof.Proof.Mask

@[expose] public section

noncomputable section

open Idealize.ShloMosaic

namespace Cert.Slab

/-! ### Real numbers among the extended ones -/

/-- A number that is neither infinity. -/
def IsReal (x : EReal) : Prop := ∃ r : ℝ, x = (r : EReal)

theorem IsReal.add {x y : EReal} (h : IsReal x) (h' : IsReal y) : IsReal (x + y) := by
  obtain ⟨a, rfl⟩ := h; obtain ⟨b, rfl⟩ := h'; exact ⟨a + b, (EReal.coe_add a b).symm⟩

theorem IsReal.mul {x y : EReal} (h : IsReal x) (h' : IsReal y) : IsReal (x * y) := by
  obtain ⟨a, rfl⟩ := h; obtain ⟨b, rfl⟩ := h'; exact ⟨a * b, (EReal.coe_mul a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem isReal_of_lt {x : EReal} (h : ⊥ < x) (h' : x < ⊤) : IsReal x :=
  ⟨x.toReal, (EReal.coe_toReal h'.ne h.ne').symm⟩

/-- The greatest of finitely many numbers is one of them. -/
theorem fold_max_mem {ι : Type} [Fintype ι] [Nonempty ι] (f : ι → EReal) : ∃ i, Finset.univ.fold max ⊥ f = f i := by
  obtain ⟨i, -, hi⟩ := Finset.exists_max_image Finset.univ f ⟨Classical.arbitrary ι, Finset.mem_univ _⟩
  exact ⟨i, le_antisymm ((fold_max_le f _).2 fun j => hi j (Finset.mem_univ _)) (le_fold_max f i)⟩

/-! ### The tables of a block -/

/-- The part of a block's rows that is slab `a`. -/
def part (a : Fin 6) (x : Fin 384 → Fin 64 → EReal) : Mat := fun t c => x (slot a t) c

/-- A head's lanes. -/
structure IsHead (h : Fin 4) (cm : Fin 64 → EReal) : Prop where
  eq : ∀ c, cm c = if headOf c = h then 1 else 0

/-- The tables that blank what is outside a row's slab. -/
structure IsTables (ix : Fin 64 → Fin 25 → Fin 64) (cnt bd bmean ltv eye : Fin 384 → Fin 384 → EReal) : Prop where
  cnt : ∀ a i a' j, cnt (slot a i) (slot a' j) = if a = a' then ((count ix i j : ℕ) : EReal) else 0
  bd : ∀ a i a' j, bd (slot a i) (slot a' j) = if a = a' then 1 else 0
  bmean : ∀ a i a' j, bmean (slot a i) (slot a' j) = if a = a' then Ideal.div 1 k64 else 0
  ltv : ∀ a i a' j, ltv (slot a i) (slot a' j) = if a = a' ∧ j < i then 1 else 0
  eye : ∀ r j, eye r j = if r = j then 1 else 0

variable {ix : Fin 64 → Fin 25 → Fin 64} {cnt bd bmean ltv eye : Fin 384 → Fin 384 → EReal} {h : Fin 4}
  {cm : Fin 64 → EReal} (q k v : Fin 384 → Fin 64 → EReal)

/-! ### Scores -/

/-- A block's scores under a head's lanes. -/
def bScore (q k : Fin 384 → Fin 64 → EReal) (cm : Fin 64 → EReal) (r j : Fin 384) : EReal :=
  ∑ c : Fin 64, q r c * cm c * k j c

theorem bScore_eq (H : IsHead h cm) (r j : Fin 384) :
    bScore q k cm r j = ∑ e : Fin 16, q r (lane h e) * k j (lane h e) := by
  unfold bScore
  rw [sum_head h _ fun c hc => by rw [H.eq, if_neg hc, mul_zero, zero_mul]]
  exact Finset.sum_congr rfl fun e _ => by rw [H.eq, if_pos (headOf_lane h e), mul_one]

theorem bScore_slot (H : IsHead h cm) (a : Fin 6) (i j : Fin 64) :
    bScore q k cm (slot a i) (slot a j) = score (part a q) (part a k) h i j := bScore_eq q k H _ _

/-! ### The measure -/

/-- A block's measure from its scores `s`. -/
def bMeas (cnt s : Fin 384 → Fin 384 → EReal) (r : Fin 384) : EReal :=
  Finset.univ.fold max ⊥ (fun j => s r j + if 0 < cnt r j then (0 : EReal) else ⊥)
    - Ideal.div (∑ j, s r j * cnt r j) k25

theorem natCast_pos' (n : ℕ) : (0 : EReal) < ((n : ℕ) : EReal) ↔ 0 < n := by
  rw [← Nat.cast_zero, EReal.natCast_lt_iff]

theorem bMeas_slot (T : IsTables ix cnt bd bmean ltv eye) (H : IsHead h cm) (a : Fin 6) (i : Fin 64) :
    bMeas cnt (bScore q k cm) (slot a i) = meas ix (part a q) (part a k) h i := by
  unfold bMeas meas
  rw [sum_slab a _ fun a' t ha => by rw [T.cnt, if_neg (Ne.symm ha), mul_zero],
    max_slab a _ fun a' t ha => by rw [T.cnt, if_neg (Ne.symm ha), if_neg (lt_irrefl _), EReal.add_bot]]
  simp only [T.cnt, if_true, bScore_slot q k H, natCast_pos']
  rw [sum_count ix i fun j => score (part a q) (part a k) h i j,
    max_count ix i fun j => score (part a q) (part a k) h i j]

/-! ### The rank -/

/-- A column read along a row through the unit matrix. -/
theorem sum_eye (T : IsTables ix cnt bd bmean ltv eye) (m : Fin 384 → EReal) (j : Fin 384) :
    ∑ r, m r * eye r j = m j := by
  rw [Finset.sum_eq_single j (fun r _ hr => by rw [T.eye, if_neg hr, mul_zero]) fun hj => absurd (Finset.mem_univ j) hj,
    T.eye, if_pos rfl, mul_one]

/-- A block's rank of a row. -/
def bRank (bd ltv : Fin 384 → Fin 384 → EReal) (m : Fin 384 → EReal) (r : Fin 384) : EReal :=
  ∑ j, (bd r j * (if m r < m j then 1 else 0) + ltv r j * (if m j = m r then 1 else 0))

theorem bRank_slot (T : IsTables ix cnt bd bmean ltv eye) (m : Fin 384 → EReal) (a : Fin 6) (i : Fin 64) :
    bRank bd ltv m (slot a i) = ((rank (fun t => m (slot a t)) i : ℕ) : EReal) := by
  unfold bRank rank
  rw [sum_slab a _ fun a' t ha => by
    rw [T.bd, T.ltv, if_neg (Ne.symm ha), if_neg (c := a = a' ∧ t < i) fun hh => ha hh.1.symm, zero_mul, zero_mul,
      zero_add]]
  rw [← Finset.sum_boole]
  refine Finset.sum_congr rfl fun j _ => ?_
  rw [T.bd, T.ltv, if_pos rfl, one_mul]
  by_cases h1 : m (slot a i) < m (slot a j) <;> by_cases h2 : m (slot a j) = m (slot a i) <;> by_cases h3 : j < i <;>
    simp [h1, h2, h3]

theorem nat_lt_k25 (n : ℕ) : ((n : ℕ) : EReal) < k25 ↔ n < 25 := by
  rw [k25_eq, ← EReal.coe_natCast, EReal.coe_lt_coe_iff]
  exact_mod_cast Iff.rfl

/-! ### Softmax -/

/-- A block's weights from its scores. -/
def bLogit (bd s : Fin 384 → Fin 384 → EReal) (r j : Fin 384) : EReal :=
  s r j * quarter + if 0 < bd r j then (0 : EReal) else ⊥

def bEx (bd s : Fin 384 → Fin 384 → EReal) (r j : Fin 384) : EReal :=
  Ideal.exp (bLogit bd s r j - Finset.univ.fold max ⊥ fun j' => bLogit bd s r j')

def bMix (bd s : Fin 384 → Fin 384 → EReal) (cm : Fin 64 → EReal) (v : Fin 384 → Fin 64 → EReal) (r : Fin 384)
    (c : Fin 64) : EReal :=
  ∑ j, Ideal.div (bEx bd s r j) (∑ j', bEx bd s r j') * (v j c * cm c)

theorem exp_nonneg' (x : EReal) : 0 ≤ Ideal.exp x := by
  induction x with
  | bot => simp
  | top => simp
  | coe r => rw [Ideal.exp_coe]; exact EReal.coe_nonneg.2 (Real.exp_pos r).le

theorem sum_ex_ne_zero (q k : Mat) (h : Fin 4) (i : Fin 64) (hr : ∀ j, IsReal (logit q k h i j)) :
    ∑ j, ex q k h i j ≠ 0 := by
  obtain ⟨j, hj⟩ := fold_max_mem fun j => logit q k h i j
  have h1 : ex q k h i j = 1 := by
    unfold ex peak
    rw [hj]
    obtain ⟨r, hr⟩ := hr j
    show Ideal.exp (logit q k h i j - logit q k h i j) = 1
    rw [hr, ← EReal.coe_sub, sub_self, Ideal.exp_coe, Real.exp_zero, EReal.coe_one]
  have h2 : (1 : EReal) ≤ ∑ j, ex q k h i j := by
    rw [← h1]
    exact Finset.single_le_sum (f := fun j => ex q k h i j) (fun j _ => exp_nonneg' _) (Finset.mem_univ j)
  exact fun h3 => absurd (h3 ▸ h2) (by simp)

variable {s : Fin 384 → Fin 384 → EReal}

theorem bLogit_slot (T : IsTables ix cnt bd bmean ltv eye) (a : Fin 6) (i : Fin 64) (a' : Fin 6) (j : Fin 64) :
    bLogit bd s (slot a i) (slot a' j) = if a = a' then s (slot a i) (slot a' j) * quarter else ⊥ := by
  unfold bLogit
  rw [T.bd]
  by_cases e : a = a'
  · rw [if_pos e, if_pos zero_lt_one, add_zero, if_pos e]
  · rw [if_neg e, if_neg (lt_irrefl _), EReal.add_bot, if_neg e]

theorem bEx_slot (T : IsTables ix cnt bd bmean ltv eye) (H : IsHead h cm) (a : Fin 6) (i : Fin 64)
    (hr : ∀ j, IsReal (logit (part a q) (part a k) h i j)) (a' : Fin 6) (j : Fin 64) :
    bEx bd (bScore q k cm) (slot a i) (slot a' j) = if a = a' then ex (part a q) (part a k) h i j else 0 := by
  have hp : (Finset.univ.fold max ⊥ fun j' => bLogit bd (bScore q k cm) (slot a i) j')
      = peak (part a q) (part a k) h i := by
    rw [max_slab a _ fun a' t ha => by rw [bLogit_slot T, if_neg (Ne.symm ha)]]
    simp only [bLogit_slot T, if_true, bScore_slot q k H]
    rfl
  unfold bEx
  rw [hp, bLogit_slot T]
  by_cases e : a = a'
  · subst e
    rw [if_pos rfl, if_pos rfl, bScore_slot q k H]
    rfl
  · rw [if_neg e, if_neg e]
    rw [EReal.bot_sub, Ideal.exp_bot]

theorem bMix_slot (T : IsTables ix cnt bd bmean ltv eye) (H : IsHead h cm) (a : Fin 6) (i : Fin 64)
    (hr : ∀ j, IsReal (logit (part a q) (part a k) h i j)) (c : Fin 64) :
    bMix bd (bScore q k cm) cm v (slot a i) c
      = if headOf c = h then mix (part a q) (part a k) (part a v) h i c else 0 := by
  have hz : (∑ j', bEx bd (bScore q k cm) (slot a i) j') = ∑ j, ex (part a q) (part a k) h i j := by
    rw [sum_slab a _ fun a' t ha => by rw [bEx_slot q k T H a i hr, if_neg (Ne.symm ha)]]
    exact Finset.sum_congr rfl fun j _ => by rw [bEx_slot q k T H a i hr, if_pos rfl]
  unfold bMix
  rw [hz]
  by_cases e : headOf c = h
  · rw [if_pos e, sum_slab a _ fun a' t ha => by
      rw [bEx_slot q k T H a i hr, if_neg (Ne.symm ha), Ideal.div, if_neg (sum_ex_ne_zero _ _ _ _ hr), zero_mul, zero_mul]]
    refine Finset.sum_congr rfl fun j _ => ?_
    rw [bEx_slot q k T H a i hr, if_pos rfl, H.eq, if_pos e, mul_one]
    rfl
  · rw [if_neg e]
    exact Finset.sum_eq_zero fun j _ => by rw [H.eq, if_neg e, mul_zero, mul_zero]

/-! ### The mean -/

/-- A block's mean of the values. -/
def bMean (bmean : Fin 384 → Fin 384 → EReal) (v : Fin 384 → Fin 64 → EReal) (r : Fin 384) (c : Fin 64) : EReal :=
  ∑ j, bmean r j * v j c

theorem bMean_slot (T : IsTables ix cnt bd bmean ltv eye) (a : Fin 6) (i c : Fin 64) :
    bMean bmean v (slot a i) c = mean (part a v) c := by
  unfold bMean mean
  rw [sum_slab a _ fun a' t ha => by rw [T.bmean, if_neg (Ne.symm ha), zero_mul]]
  rw [k64_eq, div_real _ (by norm_num), sum_mul_real _ _ _ (by norm_num)]
  refine Finset.sum_congr rfl fun j _ => ?_
  rw [T.bmean, if_pos rfl, k64_eq, div_real _ (by norm_num), one_mul, mul_comm]
  rfl

/-! ### One head's contribution to the context -/

/-- What a head adds to the context. -/
def bStep (cnt bd ltv : Fin 384 → Fin 384 → EReal) (vm : Fin 384 → Fin 64 → EReal) (cm : Fin 64 → EReal)
    (prev : EReal) (r : Fin 384) (c : Fin 64) : EReal :=
  let sel : EReal := if bRank bd ltv (bMeas cnt (bScore q k cm)) r < k25 then 1 else 0
  prev + sel * bMix bd (bScore q k cm) cm v r c + (1 - sel) * (vm r c * cm c)

theorem bStep_slot (T : IsTables ix cnt bd bmean ltv eye) (H : IsHead h cm) (a : Fin 6) (i : Fin 64)
    (hr : ∀ j, IsReal (logit (part a q) (part a k) h i j)) (c : Fin 64) (prev : EReal) :
    bStep q k v cnt bd ltv (bMean bmean v) cm prev (slot a i) c
      = prev + if headOf c = h then ctx ix (part a q) (part a k) (part a v) i c else 0 := by
  unfold bStep
  simp only [bRank_slot T, nat_lt_k25]
  rw [bMix_slot q k v T H a i hr, bMean_slot v T, H.eq]
  simp only [bMeas_slot q k T H]
  have hs : (1 : EReal) - 1 = 0 := by
    rw [← EReal.coe_one, ← EReal.coe_sub, sub_self, EReal.coe_zero]
  have hs' : (1 : EReal) - 0 = 1 := by simp
  by_cases e : headOf c = h
  · subst e
    rw [if_pos rfl, if_pos rfl, if_pos rfl, mul_one]
    unfold ctx
    by_cases hk : rank (fun t => meas ix (part a q) (part a k) (headOf c) t) i < 25
    · rw [if_pos hk, if_pos hk, one_mul, hs, zero_mul, add_zero]
    · rw [if_neg hk, if_neg hk, zero_mul, hs', one_mul, add_zero]
  · rw [if_neg e, if_neg e, if_neg e, mul_zero, mul_zero, mul_zero, add_zero]

/-- The four heads together. -/
theorem bCtx_slot (T : IsTables ix cnt bd bmean ltv eye) (cms : Fin 4 → Fin 64 → EReal) (H : ∀ h, IsHead h (cms h))
    (a : Fin 6) (i : Fin 64) (hr : ∀ h j, IsReal (logit (part a q) (part a k) h i j)) (c : Fin 64) :
    bStep q k v cnt bd ltv (bMean bmean v) (cms 3) (bStep q k v cnt bd ltv (bMean bmean v) (cms 2)
      (bStep q k v cnt bd ltv (bMean bmean v) (cms 1) (bStep q k v cnt bd ltv (bMean bmean v) (cms 0) 0
        (slot a i) c) (slot a i) c) (slot a i) c) (slot a i) c
      = ctx ix (part a q) (part a k) (part a v) i c := by
  rw [bStep_slot q k v T (H 3) a i (hr 3), bStep_slot q k v T (H 2) a i (hr 2), bStep_slot q k v T (H 1) a i (hr 1),
    bStep_slot q k v T (H 0) a i (hr 0)]
  generalize ctx ix (part a q) (part a k) (part a v) i c = x
  generalize headOf c = g
  fin_cases g <;> simp

/-! ### A row normalised with a reciprocal root -/

/-- One row normalised by multiplying with the reciprocal root. -/
def bNorm (x w b : Fin 64 → EReal) (c : Fin 64) : EReal :=
  let m := Ideal.div (∑ k : Fin 64, x k) k64
  (x c - m) * Ideal.rsqrt (Ideal.div (∑ k : Fin 64, (x k - m) * (x k - m)) k64 + eps) * w c + b c

theorem bNorm_eq (x w b : Fin 64 → EReal) : bNorm x w b = norm x w b := by
  funext c
  unfold bNorm norm
  simp only []
  rw [rsqrt_eq _ _ (Finset.sum_nonneg fun k _ => mul_self_nonneg' _)]

end Cert.Slab

end
-- ==== Proof.Pre.lean ====
/- What the precondition says of the arguments: the time indices lie in 0..9, and the slabs, the two score projections
   and the five tables are real. -/
module

public import proofs.«01_k».proof.Pre_valid
public import proofs.«01_k».proof.Proof.Block
public import Idealize.ShloMosaic.Lib.ReduceAll
public import Idealize.ShloMosaic.Lib.StableHlo.Predicate

@[expose] public section

noncomputable section

open Idealize.ShloMosaic Cert.Slab Cert.Pre_valid

namespace Cert.Pre

theorem and_one : ∀ a b : BitVec 1, IntOp.andi a b = 1#1 → a = 1#1 ∧ b = 1#1 := by decide

/-- A conjunction that is one has both sides one. -/
theorem conj {a b : IVec S_ 1} (h : andi a b = fun _ => 1#1) : (a = fun _ => 1#1) ∧ (b = fun _ => 1#1) :=
  ⟨funext fun i => (and_one _ _ (congrFun h i)).1, funext fun i => (and_one _ _ (congrFun h i)).2⟩

instance : Subsingleton S_.Idx := ⟨fun a b => funext fun x => x.elim0⟩

theorem top_bits : Ideal.ofBits .f32 0x7F800000#32 = ⊤ := by simp [Ideal.ofBits, Ideal.ieee]

/-- A number of absolute value below the infinite one is real. -/
theorem real_of_abs {x : EReal} (h : FloatOps.cmpf (F := Ideal) (φ := .f32) .olt (FloatOps.absf (F := Ideal) (φ := .f32) x) (Ideal.ofBits .f32 0x7F800000#32) = 1#1) : IsReal x := by
  rw [top_bits] at h
  induction x with
  | coe r => exact ⟨r, rfl⟩
  | top => exact absurd h (by simp [Ideal.cmpf_def, Ideal.absf_def, Ideal.cmp])
  | bot => exact absurd h (by simp [Ideal.cmpf_def, Ideal.absf_def, Ideal.cmp])

/-- An index whose word is at least 0 and below 10 is a number below 10. -/
theorem small {w : BitVec 32} (h : IntOp.andi (IntOp.cmpi .sge w 0#32) (IntOp.cmpi .slt w 10#32) = 1#1) : w.toNat < 10 := by
  obtain ⟨h1, h2⟩ := and_one _ _ h
  have h1' : (0#32 : BitVec 32).sle w = true := (StableHlo.Predicate.ofBool_eq_one_iff _).1 h1
  have h2' : w.slt 10#32 = true := (StableHlo.Predicate.ofBool_eq_one_iff _).1 h2
  simp only [BitVec.sle, BitVec.slt, decide_eq_true_eq] at h1' h2'
  have e : (10#32 : BitVec 32).toInt = 10 := by decide
  have z : (0#32 : BitVec 32).toInt = 0 := by decide
  rw [e] at h2'; rw [z] at h1'
  rw [BitVec.toInt_eq_toNat_cond] at h1' h2'
  split at h1' <;> omega

variable [Facts] {a0 : FVec Ideal S2x300x64x64 .f32} {a1 : IVec S2x64x5 32} {a2 a3 a4 a5 : FVec Ideal S64x64 .f32} {a6 a7 a8 a9 a10 : FVec Ideal S64 .f32}
  {a11 : FVec Ideal S256x64 .f32} {a12 : FVec Ideal S256 .f32} {a13 : FVec Ideal S64x256 .f32} {a14 : FVec Ideal S64 .f32}
  {a15 : FVec Ideal S70x64 .f32} {a16 : FVec Ideal S30x64 .f32} {a17 : FVec Ideal S10x64 .f32} {a18 : FVec Ideal S40x64 .f32} {a19 : FVec Ideal S400x64 .f32}

/-- The precondition, argument by argument. -/
theorem decode (h : fn (F := Ideal) a0 a1 a2 a3 a4 a5 a6 a7 a8 a9 a10 a11 a12 a13 a14 a15 a16 a17 a18 a19 = fun _ => 1#1) :
    (∀ i, (a1 i).toNat < 10) ∧ (∀ i, IsReal (a0 i)) ∧ (∀ i, IsReal (a2 i)) ∧ (∀ i, IsReal (a3 i)) ∧ (∀ i, IsReal (a15 i)) ∧ (∀ i, IsReal (a16 i))
      ∧ (∀ i, IsReal (a17 i)) ∧ (∀ i, IsReal (a18 i)) ∧ (∀ i, IsReal (a19 i)) := by
  unfold fn fn_part1 fn_part2 at h
  dsimp only at h
  obtain ⟨h, h19⟩ := conj h
  obtain ⟨h, h18⟩ := conj h
  obtain ⟨h, h17⟩ := conj h
  obtain ⟨h, h16⟩ := conj h
  obtain ⟨h, h15⟩ := conj h
  obtain ⟨h, h3⟩ := conj h
  obtain ⟨h, h2⟩ := conj h
  obtain ⟨h1, h0⟩ := conj h
  refine ⟨fun i => ?_, fun i => ?_, fun i => ?_, fun i => ?_, fun i => ?_, fun i => ?_, fun i => ?_, fun i => ?_, fun i => ?_⟩
  · exact small (Host.reduce_andi_all _ _ _ _ ix0 (congrFun h1 ix0) i)
  · exact real_of_abs (Host.reduce_andi_all _ _ _ _ ix0 (congrFun h0 ix0) i)
  · exact real_of_abs (Host.reduce_andi_all _ _ _ _ ix0 (congrFun h2 ix0) i)
  · exact real_of_abs (Host.reduce_andi_all _ _ _ _ ix0 (congrFun h3 ix0) i)
  · exact real_of_abs (Host.reduce_andi_all _ _ _ _ ix0 (congrFun h15 ix0) i)
  · exact real_of_abs (Host.reduce_andi_all _ _ _ _ ix0 (congrFun h16 ix0) i)
  · exact real_of_abs (Host.reduce_andi_all _ _ _ _ ix0 (congrFun h17 ix0) i)
  · exact real_of_abs (Host.reduce_andi_all _ _ _ _ ix0 (congrFun h18 ix0) i)
  · exact real_of_abs (Host.reduce_andi_all _ _ _ _ ix0 (congrFun h19 ix0) i)

end Cert.Pre

end
-- ==== Proof.Lits.lean ====
/- The two tables of numbers both programs hold, checked entry by entry. -/
module

public import proofs.«01_k».proof.Proof.Gen.KernelIdeal
public import proofs.«01_k».proof.Proof.Gen.ReferenceIdeal

@[expose] public section

set_option maxRecDepth 16384

namespace Cert.Slab

theorem lit_ix : ∀ n : Fin 1600, Cert.ReferenceIdeal.lit1 n = Cert.KernelIdeal.lit0 n := by decide +kernel

theorem lit_lt : ∀ n : Fin 1600, (Cert.KernelIdeal.lit0 n).toNat < 64 := by decide +kernel

theorem lit_pe : ∀ n : Fin 4096, Cert.ReferenceIdeal.lit0 n = Cert.KernelIdeal.lit1 n := by decide +kernel

theorem lit_pe_exp : ∀ n : Fin 4096, (BitVec.extractLsb' 23 8 (Cert.KernelIdeal.lit1 n)).toNat ≠ 255 := by decide +kernel

end Cert.Slab
-- ==== Proof.Data.lean ====
/- The sampled columns and the position encoding, as both programs hold them. -/
module

public import proofs.«01_k».proof.Proof.Lits
public import proofs.«01_k».proof.Proof.Block

@[expose] public section

set_option maxRecDepth 16384

noncomputable section

open Idealize.ShloMosaic

namespace Cert.Slab

/-- The column the `u`th sample of row `i` looks at. -/
def ix (i : Fin 64) (u : Fin 25) : Fin 64 := ⟨(Cert.KernelIdeal.lit0 (Cert.KernelIdeal.S64x25.rowMajor (ix2 i u))).toNat, lit_lt _⟩

/-- The position encoding. -/
def pe : Mat := fun t c => Ideal.ofBits .f32 (Cert.KernelIdeal.lit1 (Cert.KernelIdeal.S64x64.rowMajor (ix2 t c)))

theorem lit_ix_eq (i : Fin 64) (u : Fin 25) :
    Cert.KernelIdeal.lit0 (Cert.KernelIdeal.S64x25.rowMajor (ix2 i u)) = BitVec.ofNat 32 (ix i u) := by
  simp [ix]

theorem ofBits_real (w : BitVec 32) (h : (BitVec.extractLsb' 23 8 w).toNat ≠ 255) : IsReal (Ideal.ofBits .f32 w) := by
  simp only [Ideal.ofBits, Ideal.ieee]
  rw [if_neg (by simpa using h)]
  split <;> exact ⟨_, rfl⟩

theorem pe_real (t c : Fin 64) : IsReal (pe t c) := ofBits_real _ (lit_pe_exp _)

/-- The rows of the five tables of times that the five small numbers name, added up. -/
def times (T1 : Fin 70 → Fin 64 → EReal) (T2 : Fin 30 → Fin 64 → EReal) (T3 : Fin 10 → Fin 64 → EReal) (T4 : Fin 40 → Fin 64 → EReal)
    (T5 : Fin 400 → Fin 64 → EReal) (n : Fin 5 → Fin 10) (c : Fin 64) : EReal :=
  T1 ⟨n 0, by omega⟩ c + T2 ⟨n 1, by omega⟩ c + T3 ⟨n 2, by omega⟩ c + T4 ⟨n 3, by omega⟩ c + T5 ⟨n 4, by omega⟩ c

/-- What both programs are given, by coordinates. -/
structure Args where
  x : Fin 2 → Fin 300 → Mat
  n : Fin 2 → Fin 64 → Fin 5 → Fin 10
  W : Weights
  T1 : Fin 70 → Fin 64 → EReal
  T2 : Fin 30 → Fin 64 → EReal
  T3 : Fin 10 → Fin 64 → EReal
  T4 : Fin 40 → Fin 64 → EReal
  T5 : Fin 400 → Fin 64 → EReal

namespace Args

variable (A : Args)

/-- A slab with its encodings of position and time. -/
def enc (b : Fin 2) (s : Fin 300) : Mat := fun t c => A.x b s t c + pe t c + times A.T1 A.T2 A.T3 A.T4 A.T5 (A.n b t) c

/-- The layer on a slab. -/
def out (b : Fin 2) (s : Fin 300) : Mat := layer ix A.W (A.enc b s)

/-- The numbers that must be finite. -/
structure Finite : Prop where
  x : ∀ b s t c, IsReal (A.x b s t c)
  q : ∀ t c, IsReal (A.W.q t c)
  k : ∀ t c, IsReal (A.W.k t c)
  T1 : ∀ t c, IsReal (A.T1 t c)
  T2 : ∀ t c, IsReal (A.T2 t c)
  T3 : ∀ t c, IsReal (A.T3 t c)
  T4 : ∀ t c, IsReal (A.T4 t c)
  T5 : ∀ t c, IsReal (A.T5 t c)

variable {A}

theorem Finite.enc (h : A.Finite) (b : Fin 2) (s : Fin 300) (t c : Fin 64) : IsReal (A.enc b s t c) :=
  ((h.x b s t c).add (pe_real t c)).add (((((h.T1 _ c).add (h.T2 _ c)).add (h.T3 _ c)).add (h.T4 _ c)).add (h.T5 _ c))

theorem proj_real {W e : Mat} (hW : ∀ t c, IsReal (W t c)) (he : ∀ t c, IsReal (e t c)) (t c : Fin 64) : IsReal (proj W e t c) :=
  IsReal.sum _ _ fun k => (he t k).mul (hW c k)

theorem Finite.logit (h : A.Finite) (b : Fin 2) (s : Fin 300) (hd : Fin 4) (i j : Fin 64) :
    IsReal (logit (proj A.W.q (A.enc b s)) (proj A.W.k (A.enc b s)) hd i j) :=
  IsReal.mul (IsReal.sum _ _ fun e => (proj_real h.q (h.enc b s) i _).mul (proj_real h.k (h.enc b s) j _))
    ⟨_, quarter_eq⟩

end Args

end Cert.Slab

end
-- ==== Proof.Tables.lean ====
/- The tables the host builds for the blocks, read at an index. -/
module

public import proofs.«01_k».proof.Proof.KernelIdealRun
public import proofs.«01_k».proof.Proof.Data
public import Idealize.ShloMosaic.Lib.StableHlo.ReadAt

@[expose] public section

set_option maxRecDepth 16384

noncomputable section

open Idealize.ShloMosaic Idealize.ShloMosaic.TcCoe

namespace Cert.Tables

open Cert.KernelIdeal Cert.KernelIdeal.Gen Cert.KernelIdeal.Whole Cert.Slab

theorem slot_mod (a : Fin 6) (t : Fin 64) {h} : (⟨(slot a t : ℕ) % 64, h⟩ : Fin 64) = t :=
  Fin.ext (by show (64 * (a : ℕ) + t) % 64 = t; omega)

theorem slot_div (a : Fin 6) (t : Fin 64) : (slot a t : ℕ) / 64 = a := by show (64 * (a : ℕ) + t) / 64 = a; omega

theorem select_bit (b : Bool) (x y : EReal) : Scalar.select (BitVec.ofBool b) x y = if b then x else y := by
  cases b <;> rfl

theorem cmpi_eq_nat (x y : ℕ) (hx : x < 2 ^ 32) (hy : y < 2 ^ 32) :
    IntOp.cmpi .eq (BitVec.ofNat 32 x) (BitVec.ofNat 32 y) = BitVec.ofBool (decide (x = y)) := by
  have h : (BitVec.ofNat 32 x = BitVec.ofNat 32 y) ↔ x = y := by
    rw [← BitVec.toNat_inj, BitVec.toNat_ofNat, BitVec.toNat_ofNat, Nat.mod_eq_of_lt hx, Nat.mod_eq_of_lt hy]
  simp only [IntOp.cmpi]
  by_cases e : x = y
  · simp [e]
  · have h' : (BitVec.ofNat 32 x == BitVec.ofNat 32 y) = false := beq_eq_false_iff_ne.2 fun hh => e (h.1 hh)
    rw [h', decide_eq_false e]

theorem cmpi_slt_nat (x y : ℕ) (hx : x < 2 ^ 31) (hy : y < 2 ^ 31) :
    IntOp.cmpi .slt (BitVec.ofNat 32 x) (BitVec.ofNat 32 y) = BitVec.ofBool (decide (x < y)) := by
  have h : (BitVec.ofNat 32 x).slt (BitVec.ofNat 32 y) = decide (x < y) := by
    rw [BitVec.slt_eq_decide, BitVec.toInt_ofNat', BitVec.toInt_ofNat', Int.bmod_eq_of_le, Int.bmod_eq_of_le] <;> first | omega | simp
  simp only [IntOp.cmpi, h]

/-! ### Each stretch's writes, from the contents before it -/

variable (V : Valuation τ sig (Elt Ideal))

theorem v3_at (r j : Fin 64) (k : Fin 25) : StableHlo.after hostOps0 V (Proc.devRef .tc main_v3) (ix3 r j k)
    = IntOp.cmpi .eq (lit0 (S64x25.rowMajor (ix2 r k))) (BitVec.ofNat 32 j) := by
  after_reads_at

theorem cst_at (r j : Fin 64) : StableHlo.after hostOps0 V (Proc.devRef .tc main_cst) (ix2 r j) = pe r j := by
  after_reads_at; rfl

theorem cst0_at : StableHlo.after hostOps0 V (Proc.devRef .tc main_cst_0) ix0 = (1 : EReal) := by
  after_reads_at

theorem cst1_at : StableHlo.after hostOps0 V (Proc.devRef .tc main_cst_1) ix0 = (0 : EReal) := by
  after_reads_at

theorem v4_at (r j : Fin 64) (k : Fin 25) : StableHlo.after hostOps0_1 V (Proc.devRef .tc main_v4) (ix3 r j k)
    = Scalar.select (V (Proc.devRef .tc main_v3) (ix3 r j k)) (V (Proc.devRef .tc main_cst_0) ix0) (V (Proc.devRef .tc main_cst_1) ix0) := by
  after_reads_at

theorem v6_at (r j : Fin 64) (s : Fin 25 → EReal) (h : ∀ k, V (Proc.devRef .tc main_v4) (ix3 r j k) = s k) :
    StableHlo.after hostOps0_2 V (Proc.devRef .tc main_v6) (ix2 r j) = ∑ k : Fin 25, s k := by
  after_reads_at
  exact Finset.sum_congr rfl fun k _ => h k

theorem v10_at (r j : Fin 384) : StableHlo.after hostOps0_2 V (Proc.devRef .tc main_v10) (ix2 r j)
    = IntOp.cmpi .eq (BitVec.ofNat 32 (r / 64)) (BitVec.ofNat 32 (j / 64)) := by
  after_reads_at

theorem v11_at (r j : Fin 384) : StableHlo.after hostOps0_2 V (Proc.devRef .tc main_v11) (ix2 r j) = BitVec.ofNat 32 r := by
  after_reads_at

theorem v12_at (r j : Fin 384) : StableHlo.after hostOps0_2 V (Proc.devRef .tc main_v12) (ix2 r j) = BitVec.ofNat 32 j := by
  after_reads_at

theorem cst3_at : StableHlo.after hostOps0_2 V (Proc.devRef .tc main_cst_3) ix0 = (1 : EReal) := by
  after_reads_at

theorem cst4_at : StableHlo.after hostOps0_2 V (Proc.devRef .tc main_cst_4) ix0 = (0 : EReal) := by
  after_reads_at

theorem v13_at (r j : Fin 384) : StableHlo.after hostOps0_3 V (Proc.devRef .tc main_v13) (ix2 r j)
    = Scalar.select (V (Proc.devRef .tc main_v10) (ix2 r j)) (V (Proc.devRef .tc main_cst_3) ix0) (V (Proc.devRef .tc main_cst_4) ix0) := by
  after_reads_at

theorem v16_at (a : Fin 6) (i : Fin 64) (a' : Fin 6) (j : Fin 64) :
    StableHlo.after hostOps0_4 V (Proc.devRef .tc main_v16) (ix2 (slot a i) (slot a' j)) = V (Proc.devRef .tc main_v6) (ix2 i j) := by
  after_reads_at
  exact congrArg₂ (fun x y => V (Proc.devRef .tc main_v6) (ix2 x y)) (slot_mod a i) (slot_mod a' j)

theorem cst5_at : StableHlo.after hostOps0_4 V (Proc.devRef .tc main_cst_5) ix0 = (0 : EReal) := by
  after_reads_at

theorem v17_at (r j : Fin 384) : StableHlo.after hostOps0_5 V (Proc.devRef .tc main_v17) (ix2 r j)
    = Scalar.select (V (Proc.devRef .tc main_v10) (ix2 r j)) (V (Proc.devRef .tc main_v16) (ix2 r j)) (V (Proc.devRef .tc main_cst_5) ix0) := by
  after_reads_at
  rfl

theorem v19_at (r j : Fin 384) : StableHlo.after hostOps0_6 V (Proc.devRef .tc main_v19) (ix2 r j)
    = Ideal.div (V (Proc.devRef .tc main_v13) (ix2 r j)) k64 := by
  after_reads_at; rfl

theorem v20_at (r j : Fin 384) : StableHlo.after hostOps0_6 V (Proc.devRef .tc main_v20) (ix2 r j)
    = IntOp.cmpi .slt (V (Proc.devRef .tc main_v12) (ix2 r j)) (V (Proc.devRef .tc main_v11) (ix2 r j)) := by
  after_reads_at

theorem cst7_at : StableHlo.after hostOps0_6 V (Proc.devRef .tc main_cst_7) ix0 = (1 : EReal) := by
  after_reads_at

theorem cst8_at : StableHlo.after hostOps0_6 V (Proc.devRef .tc main_cst_8) ix0 = (0 : EReal) := by
  after_reads_at

theorem v21_at (r j : Fin 384) : StableHlo.after hostOps0_7 V (Proc.devRef .tc main_v21) (ix2 r j)
    = Scalar.select (V (Proc.devRef .tc main_v20) (ix2 r j)) (V (Proc.devRef .tc main_cst_7) ix0) (V (Proc.devRef .tc main_cst_8) ix0) := by
  after_reads_at

theorem v22_at (r j : Fin 384) (x y : EReal) (hx : V (Proc.devRef .tc main_v13) (ix2 r j) = x)
    (hy : V (Proc.devRef .tc main_v21) (ix2 r j) = y) : StableHlo.after hostOps0_8 V (Proc.devRef .tc main_v22) (ix2 r j)
    = x * y := by
  after_reads_at
  exact congrArg₂ (fun a b : EReal => a * b) hx hy

theorem v23_at (r j : Fin 384) : StableHlo.after hostOps0_8 V (Proc.devRef .tc main_v23) (ix2 r j)
    = IntOp.cmpi .eq (V (Proc.devRef .tc main_v11) (ix2 r j)) (V (Proc.devRef .tc main_v12) (ix2 r j)) := by
  after_reads_at

theorem cst9_at : StableHlo.after hostOps0_8 V (Proc.devRef .tc main_cst_9) ix0 = (1 : EReal) := by
  after_reads_at

theorem cst10_at : StableHlo.after hostOps0_8 V (Proc.devRef .tc main_cst_10) ix0 = (0 : EReal) := by
  after_reads_at

theorem v24_at (r j : Fin 384) : StableHlo.after hostOps0_9 V (Proc.devRef .tc main_v24) (ix2 r j)
    = Scalar.select (V (Proc.devRef .tc main_v23) (ix2 r j)) (V (Proc.devRef .tc main_cst_9) ix0) (V (Proc.devRef .tc main_cst_10) ix0) := by
  after_reads_at

theorem v27_at (a b : Fin 4) (e : Fin 16) : StableHlo.after hostOps0_10 V (Proc.devRef .tc main_v27) (ix3 a b e)
    = IntOp.cmpi .eq (BitVec.ofNat 32 a) (BitVec.ofNat 32 b) := by
  after_reads_at

theorem cst11_at : StableHlo.after hostOps0_10 V (Proc.devRef .tc main_cst_11) ix0 = (1 : EReal) := by
  after_reads_at

theorem cst12_at : StableHlo.after hostOps0_10 V (Proc.devRef .tc main_cst_12) ix0 = (0 : EReal) := by
  after_reads_at

theorem v28_at (a b : Fin 4) (e : Fin 16) : StableHlo.after hostOps0_11 V (Proc.devRef .tc main_v28) (ix3 a b e)
    = Scalar.select (V (Proc.devRef .tc main_v27) (ix3 a b e)) (V (Proc.devRef .tc main_cst_11) ix0) (V (Proc.devRef .tc main_cst_12) ix0) := by
  after_reads_at

theorem v29_at (h : Fin 4) (c : Fin 64) : ∃ e, StableHlo.after hostOps0_12 V (Proc.devRef .tc main_v29) (ix2 h c)
    = V (Proc.devRef .tc main_v28) (ix3 h (headOf c) e) := by
  refine ⟨⟨c % 16, by omega⟩, ?_⟩
  after_reads_at
  rfl

theorem v32_at (a : Fin 6) (t c : Fin 64) : StableHlo.after hostOps0_12 V (Proc.devRef .tc main_v32) (ix2 (slot a t) c)
    = V (Proc.devRef .tc main_cst) (ix2 t c) := by
  after_reads_at
  exact congrArg (fun x => V (Proc.devRef .tc main_cst) (ix2 x c)) (slot_mod a t)

/-! ### The tables at the blocks' entry -/

variable (m : (ℓ : Loc nD τ sig) → Buf (Elt Ideal) ℓ) (ρ : Dev nD → PrngReg) (c : Dev nD)

theorem cst0 : W1 m ρ c (Proc.devRef .tc main_cst_0) ix0 = (1 : EReal) := cst0_at _
theorem cst1 : W1 m ρ c (Proc.devRef .tc main_cst_1) ix0 = (0 : EReal) := cst1_at _
theorem cst3 : W3 m ρ c (Proc.devRef .tc main_cst_3) ix0 = (1 : EReal) := cst3_at _
theorem cst4 : W3 m ρ c (Proc.devRef .tc main_cst_4) ix0 = (0 : EReal) := cst4_at _
theorem cst5 : W5 m ρ c (Proc.devRef .tc main_cst_5) ix0 = (0 : EReal) := cst5_at _
theorem cst7 : W7 m ρ c (Proc.devRef .tc main_cst_7) ix0 = (1 : EReal) := cst7_at _
theorem cst8 : W7 m ρ c (Proc.devRef .tc main_cst_8) ix0 = (0 : EReal) := cst8_at _
theorem cst9 : W9 m ρ c (Proc.devRef .tc main_cst_9) ix0 = (1 : EReal) := cst9_at _
theorem cst10 : W9 m ρ c (Proc.devRef .tc main_cst_10) ix0 = (0 : EReal) := cst10_at _
theorem cst11 : W11 m ρ c (Proc.devRef .tc main_cst_11) ix0 = (1 : EReal) := cst11_at _
theorem cst12 : W11 m ρ c (Proc.devRef .tc main_cst_12) ix0 = (0 : EReal) := cst12_at _

theorem v3 (r j : Fin 64) (k : Fin 25) : W1 m ρ c (Proc.devRef .tc main_v3) (ix3 r j k) = IntOp.cmpi .eq (lit0 (S64x25.rowMajor (ix2 r k))) (BitVec.ofNat 32 j) := v3_at _ r j k
theorem v11 (r j : Fin 384) : W3 m ρ c (Proc.devRef .tc main_v11) (ix2 r j) = BitVec.ofNat 32 r := v11_at _ r j
theorem v12 (r j : Fin 384) : W3 m ρ c (Proc.devRef .tc main_v12) (ix2 r j) = BitVec.ofNat 32 j := v12_at _ r j
theorem v16 (a : Fin 6) (i : Fin 64) (a' : Fin 6) (j : Fin 64) : W5 m ρ c (Proc.devRef .tc main_v16) (ix2 (slot a i) (slot a' j))
    = W4 m ρ c (Proc.devRef .tc main_v6) (ix2 i j) := v16_at _ a i a' j
theorem v27 (a b : Fin 4) (e : Fin 16) : W11 m ρ c (Proc.devRef .tc main_v27) (ix3 a b e)
    = IntOp.cmpi .eq (BitVec.ofNat 32 a) (BitVec.ofNat 32 b) := v27_at _ a b e

theorem v10 (r j : Fin 384) : W3 m ρ c (Proc.devRef .tc main_v10) (ix2 r j) = BitVec.ofBool (decide ((r : ℕ) / 64 = (j : ℕ) / 64)) :=
  (v10_at _ r j).trans (cmpi_eq_nat _ _ (by omega) (by omega))

theorem v4 (r j : Fin 64) (k : Fin 25) : W2 m ρ c (Proc.devRef .tc main_v4) (ix3 r j k) = if ix r k = j then (1 : EReal) else 0 := by
  refine (v4_at _ r j k).trans ?_
  rw [cst0 m ρ c, cst1 m ρ c, v3 m ρ c, lit_ix_eq, cmpi_eq_nat _ _ (by omega) (by omega)]
  refine (select_bit _ _ _).trans ?_
  simp [Fin.ext_iff]

theorem v6 (r j : Fin 64) : W3 m ρ c (Proc.devRef .tc main_v6) (ix2 r j) = ((count ix r j : ℕ) : EReal) := by
  refine (v6_at _ r j _ (v4 m ρ c r j)).trans ?_
  rw [Finset.sum_boole]
  rfl

theorem v13 (r j : Fin 384) : W4 m ρ c (Proc.devRef .tc main_v13) (ix2 r j) = if (r : ℕ) / 64 = (j : ℕ) / 64 then (1 : EReal) else 0 := by
  refine (v13_at _ r j).trans ?_
  rw [cst3 m ρ c, cst4 m ρ c, v10]
  refine (select_bit _ _ _).trans ?_
  simp

theorem v17 (a : Fin 6) (i : Fin 64) (a' : Fin 6) (j : Fin 64) : W6 m ρ c (Proc.devRef .tc main_v17) (ix2 (slot a i) (slot a' j))
    = if a = a' then ((count ix i j : ℕ) : EReal) else 0 := by
  refine (v17_at _ _ _).trans ?_
  rw [cst5 m ρ c, v16 m ρ c, W5_of m ρ c main_v10 (by decide), W4_of m ρ c main_v10 (by decide), v10, W4_of m ρ c main_v6 (by decide), v6, slot_div, slot_div]
  refine (select_bit _ _ _).trans ?_
  simp [Fin.ext_iff]

theorem v19 (r j : Fin 384) : W7 m ρ c (Proc.devRef .tc main_v19) (ix2 r j)
    = if (r : ℕ) / 64 = (j : ℕ) / 64 then Ideal.div 1 k64 else 0 := by
  refine (v19_at _ r j).trans ?_
  rw [W6_of m ρ c _ (by decide), W5_of m ρ c _ (by decide), v13]
  split
  · rfl
  · rw [k64_eq, div_real _ (by norm_num), zero_mul]

theorem v20 (r j : Fin 384) : W7 m ρ c (Proc.devRef .tc main_v20) (ix2 r j) = BitVec.ofBool (decide (j < r)) := by
  refine (v20_at _ r j).trans ?_
  rw [W6_of m ρ c main_v12 (by decide), W5_of m ρ c main_v12 (by decide), W4_of m ρ c main_v12 (by decide), v12 m ρ c, W6_of m ρ c main_v11 (by decide), W5_of m ρ c main_v11 (by decide), W4_of m ρ c main_v11 (by decide), v11 m ρ c]
  exact cmpi_slt_nat _ _ (by omega) (by omega)

theorem v21 (r j : Fin 384) : W8 m ρ c (Proc.devRef .tc main_v21) (ix2 r j) = if j < r then (1 : EReal) else 0 := by
  refine (v21_at _ r j).trans ?_
  rw [cst7 m ρ c, cst8 m ρ c, v20]
  refine (select_bit _ _ _).trans ?_
  simp

theorem v22 (r j : Fin 384) : W9 m ρ c (Proc.devRef .tc main_v22) (ix2 r j)
    = (if (r : ℕ) / 64 = (j : ℕ) / 64 then (1 : EReal) else 0) * if j < r then (1 : EReal) else 0 :=
  v22_at _ r j _ _ (by rw [W8_of m ρ c _ (by decide), W7_of m ρ c _ (by decide), W6_of m ρ c _ (by decide), W5_of m ρ c _ (by decide), v13]) (v21 m ρ c r j)

theorem v23 (r j : Fin 384) : W9 m ρ c (Proc.devRef .tc main_v23) (ix2 r j) = BitVec.ofBool (decide (r = j)) := by
  refine (v23_at _ r j).trans ?_
  rw [W8_of m ρ c main_v12 (by decide), W7_of m ρ c main_v12 (by decide), W6_of m ρ c main_v12 (by decide), W5_of m ρ c main_v12 (by decide), W4_of m ρ c main_v12 (by decide), v12 m ρ c, W8_of m ρ c main_v11 (by decide), W7_of m ρ c main_v11 (by decide), W6_of m ρ c main_v11 (by decide), W5_of m ρ c main_v11 (by decide), W4_of m ρ c main_v11 (by decide), v11 m ρ c]
  refine (cmpi_eq_nat _ _ (by omega) (by omega)).trans ?_
  simp [Fin.ext_iff]

theorem v24 (r j : Fin 384) : W10 m ρ c (Proc.devRef .tc main_v24) (ix2 r j) = if r = j then (1 : EReal) else 0 := by
  refine (v24_at _ r j).trans ?_
  rw [cst9 m ρ c, cst10 m ρ c, v23]
  refine (select_bit _ _ _).trans ?_
  simp

theorem v28 (a b : Fin 4) (e : Fin 16) : W12 m ρ c (Proc.devRef .tc main_v28) (ix3 a b e) = if b = a then (1 : EReal) else 0 := by
  refine (v28_at _ a b e).trans ?_
  rw [cst11 m ρ c, cst12 m ρ c, v27 m ρ c, cmpi_eq_nat _ _ (by omega) (by omega)]
  refine (select_bit _ _ _).trans ?_
  simp [Fin.ext_iff, eq_comm]

theorem v29 (h : Fin 4) (k : Fin 64) : W13 m ρ c (Proc.devRef .tc main_v29) (ix2 h k) = if headOf k = h then (1 : EReal) else 0 := by
  obtain ⟨e, he⟩ := v29_at (W12 m ρ c) h k
  exact he.trans (v28 m ρ c h (headOf k) e)

theorem v32 (a : Fin 6) (t k : Fin 64) : W13 m ρ c (Proc.devRef .tc main_v32) (ix2 (slot a t) k) = pe t k := by
  refine (v32_at _ a t k).trans ?_
  rw [W12_of m ρ c _ (by decide), W11_of m ρ c _ (by decide), W10_of m ρ c _ (by decide), W9_of m ρ c _ (by decide), W8_of m ρ c _ (by decide), W7_of m ρ c _ (by decide), W6_of m ρ c _ (by decide), W5_of m ρ c _ (by decide), W4_of m ρ c _ (by decide), W3_of m ρ c _ (by decide), W2_of m ρ c _ (by decide)]
  exact cst_at _ t k

theorem e_v13 : V15 m ρ c main_v13 = W4 m ρ c (Proc.devRef .tc main_v13) := by
  show W15 m ρ c (Proc.devRef .tc main_v13) = _
  rw [W15_of m ρ c _ (by decide), W14_of m ρ c _ (by decide), W13_of m ρ c _ (by decide), W12_of m ρ c _ (by decide), W11_of m ρ c _ (by decide), W10_of m ρ c _ (by decide), W9_of m ρ c _ (by decide), W8_of m ρ c _ (by decide), W7_of m ρ c _ (by decide), W6_of m ρ c _ (by decide), W5_of m ρ c _ (by decide)]

theorem e_v17 : V15 m ρ c main_v17 = W6 m ρ c (Proc.devRef .tc main_v17) := by
  show W15 m ρ c (Proc.devRef .tc main_v17) = _
  rw [W15_of m ρ c _ (by decide), W14_of m ρ c _ (by decide), W13_of m ρ c _ (by decide), W12_of m ρ c _ (by decide), W11_of m ρ c _ (by decide), W10_of m ρ c _ (by decide), W9_of m ρ c _ (by decide), W8_of m ρ c _ (by decide), W7_of m ρ c _ (by decide)]

theorem e_v19 : V15 m ρ c main_v19 = W7 m ρ c (Proc.devRef .tc main_v19) := by
  show W15 m ρ c (Proc.devRef .tc main_v19) = _
  rw [W15_of m ρ c _ (by decide), W14_of m ρ c _ (by decide), W13_of m ρ c _ (by decide), W12_of m ρ c _ (by decide), W11_of m ρ c _ (by decide), W10_of m ρ c _ (by decide), W9_of m ρ c _ (by decide), W8_of m ρ c _ (by decide)]

theorem e_v22 : V15 m ρ c main_v22 = W9 m ρ c (Proc.devRef .tc main_v22) := by
  show W15 m ρ c (Proc.devRef .tc main_v22) = _
  rw [W15_of m ρ c _ (by decide), W14_of m ρ c _ (by decide), W13_of m ρ c _ (by decide), W12_of m ρ c _ (by decide), W11_of m ρ c _ (by decide), W10_of m ρ c _ (by decide)]

theorem e_v24 : V15 m ρ c main_v24 = W10 m ρ c (Proc.devRef .tc main_v24) := by
  show W15 m ρ c (Proc.devRef .tc main_v24) = _
  rw [W15_of m ρ c _ (by decide), W14_of m ρ c _ (by decide), W13_of m ρ c _ (by decide), W12_of m ρ c _ (by decide), W11_of m ρ c _ (by decide)]

theorem e_v29 : V15 m ρ c main_v29 = W13 m ρ c (Proc.devRef .tc main_v29) := by
  show W15 m ρ c (Proc.devRef .tc main_v29) = _
  rw [W15_of m ρ c _ (by decide), W14_of m ρ c _ (by decide)]

theorem e_v32 : V15 m ρ c main_v32 = W13 m ρ c (Proc.devRef .tc main_v32) := by
  show W15 m ρ c (Proc.devRef .tc main_v32) = _
  rw [W15_of m ρ c _ (by decide), W14_of m ρ c _ (by decide)]

theorem tables : IsTables ix (fun r j => V15 m ρ c main_v17 (ix2 r j)) (fun r j => V15 m ρ c main_v13 (ix2 r j))
    (fun r j => V15 m ρ c main_v19 (ix2 r j)) (fun r j => V15 m ρ c main_v22 (ix2 r j)) (fun r j => V15 m ρ c main_v24 (ix2 r j)) where
  cnt a i a' j := by rw [e_v17]; exact v17 m ρ c a i a' j
  bd a i a' j := by rw [e_v13]; refine (v13 m ρ c _ _).trans ?_; simp only [slot_div, Fin.ext_iff]
  bmean a i a' j := by rw [e_v19]; refine (v19 m ρ c _ _).trans ?_; simp only [slot_div, Fin.ext_iff]
  ltv a i a' j := by
    rw [e_v22]
    refine (v22 m ρ c _ _).trans ?_
    simp only [slot_div]
    by_cases e : a = a'
    · subst e
      have : slot a j < slot a i ↔ j < i := by
        show 64 * (a : ℕ) + j < 64 * (a : ℕ) + i ↔ (j : ℕ) < i
        omega
      rw [if_pos rfl, one_mul]
      simp only [this, true_and]
    · have : ¬ (a : ℕ) = a' := fun h => e (Fin.ext h)
      rw [if_neg this, zero_mul, if_neg fun h => e h.1]
  eye r j := by rw [e_v24]; exact v24 m ρ c r j

theorem heads (h : Fin 4) : IsHead h fun k => V15 m ρ c main_v29 (ix2 h k) where
  eq k := by rw [e_v29]; exact v29 m ρ c h k

theorem pe_rows (a : Fin 6) (t k : Fin 64) : V15 m ρ c main_v32 (ix2 (slot a t) k) = pe t k := by
  rw [e_v32]; exact v32 m ρ c a t k

end Cert.Tables

end
-- ==== Proof.BodyOps.lean ====
/- The block body's vectors, read at an index. -/
module

public import proofs.«01_k».proof.Proof.Gen.KernelIdeal.Skeleton
public import proofs.«01_k».proof.Proof.Block

@[expose] public section

set_option maxRecDepth 16384

noncomputable section

open Idealize.ShloMosaic

namespace Cert.Body

open Cert.KernelIdeal Cert.KernelIdeal.Gen Cert.Slab

/-- A matrix read by its two coordinates. -/
abbrev at2 {a b : ℕ} (x : FVec Ideal (⟨2, ![a, b]⟩ : Shape) .f32) (r : Fin a) (c : Fin b) : EReal := x (ix2 r c)

/-- A truth value as a number. -/
theorem bit_eq (p : Prop) [Decidable p] :
    (FloatOps.sitofp FTy.f32 (BitVec.setWidth 32 (BitVec.ofBool (decide p))) : Ideal .f32) = if p then (1 : EReal) else 0 := by
  by_cases h : p <;> simp [h, FloatOps.sitofp]

theorem ninf : Ideal.ofBits .f32 4286578688#32 = ⊥ := by simp [Ideal.ofBits, Ideal.ieee]

/-- The named mask is the bottom. -/
theorem mask : (Named.named (F := Ideal) Cert.KernelIdeal.κ "mask" (φ := .f32) 0xF149F2CA#32 : EReal) = ⊥ :=
  IdealRules.named_const.ideal_named_scalar _ _ _ _ rfl

variable (q k v vm prev : FVec Ideal S384x64 .f32) (neg bneg : FVec Ideal S384x384 .f32) (cm : Vec Ideal S1x64 .f32)
  (cnt bd ltv eye : Vec Ideal S384x384 .f32)

/-- A head's step of the context, as the second head prints it. -/
def headStep : FVec Ideal S384x64 .f32 :=
  k1_pay22
    (k1_pay20 v bneg prev (k1_pay15 cm) (k1_pay16 q k cm) (k1_pay17 q k neg cm cnt) (k1_pay18 eye) bd ltv)
    (k1_pay21 vm (k1_pay15 cm) (k1_pay17 q k neg cm cnt) (k1_pay18 eye) bd ltv)

theorem head0 : k1_pay14 v vm prev bneg (k1_pay11 cm) (k1_pay12 q k cm) (k1_pay13 q k neg cm cnt eye bd ltv)
    = headStep q k v vm prev neg bneg cm cnt bd ltv eye := rfl

theorem head1 : k1_pay22
    (k1_pay20 v bneg prev (k1_pay15 cm) (k1_pay16 q k cm) (k1_pay17 q k neg cm cnt) (k1_pay18 eye) bd ltv)
    (k1_pay21 vm (k1_pay15 cm) (k1_pay17 q k neg cm cnt) (k1_pay18 eye) bd ltv)
    = headStep q k v vm prev neg bneg cm cnt bd ltv eye := rfl

theorem head2 : k1_pay26 v vm bneg prev (k1_pay23 cm) (k1_pay24 q k cm) (k1_pay25 q k neg cm cnt eye bd ltv)
    = headStep q k v vm prev neg bneg cm cnt bd ltv eye := rfl

theorem head3 : k1_pay31 v vm bneg prev (k1_pay27 cm) (k1_pay28 q k cm) (k1_pay29 q k neg cm cnt)
      (k1_pay30 q k neg cm cnt eye) bd ltv
    = headStep q k v vm prev neg bneg cm cnt bd ltv eye := rfl

theorem score_at (r j : Fin 384) : k1_pay16 q k cm (ix2 r j) = bScore (at2 q) (at2 k) (at2 cm 0) r j := by
  unfold_payloads
  pointwise
  rfl

theorem meas_at (hneg : ∀ r j, neg (ix2 r j) = if 0 < cnt (ix2 r j) then (0 : EReal) else ⊥) (r : Fin 384) :
    k1_pay17 q k neg cm cnt (ix2 r 0) = bMeas (at2 cnt) (bScore (at2 q) (at2 k) (at2 cm 0)) r := by
  unfold k1_pay17
  pointwise
  simp only [score_at, hneg, ninf]
  rfl

theorem sel_at (m : FVec Ideal S384x1 .f32) (heye : ∀ r j : Fin 384, eye (ix2 r j) = if r = j then (1 : EReal) else 0)
    (r : Fin 384) :
    k1_pay19 m (k1_pay18 eye) bd ltv (ix2 r 0)
      = if bRank (at2 bd) (at2 ltv) (fun j => m (ix2 j 0)) r < k25 then (1 : EReal) else 0 := by
  unfold_payloads
  pointwise
  have he : ∀ j : Fin 384, ∑ x : Fin 384, m (ix2 x 0) * eye (ix2 x j) = m (ix2 j 0) := fun j => by
    rw [Finset.sum_eq_single j (fun r _ hr => by rw [heye, if_neg hr, mul_zero]) fun hj => absurd (Finset.mem_univ j) hj,
      heye, if_pos rfl, mul_one]
  simp only [he, bit_eq]
  rfl

theorem mix_at (hbneg : ∀ r j, bneg (ix2 r j) = if 0 < bd (ix2 r j) then (0 : EReal) else ⊥)
    (m : FVec Ideal S384x1 .f32) (e : FVec Ideal S384x384 .f32) (r : Fin 384) (c : Fin 64) :
    k1_pay20 v bneg prev (k1_pay15 cm) (k1_pay16 q k cm) m e bd ltv (ix2 r c)
      = prev (ix2 r c) + k1_pay19 m e bd ltv (ix2 r 0)
          * bMix (at2 bd) (bScore (at2 q) (at2 k) (at2 cm 0)) (at2 cm 0) (at2 v) r c := by
  unfold k1_pay20 k1_pay15
  pointwise
  simp only [score_at, hbneg, ninf]
  rfl

theorem rest_at (m : FVec Ideal S384x1 .f32) (e : FVec Ideal S384x384 .f32) (r : Fin 384) (c : Fin 64) :
    k1_pay21 vm (k1_pay15 cm) m e bd ltv (ix2 r c)
      = (1 - k1_pay19 m e bd ltv (ix2 r 0)) * (vm (ix2 r c) * cm (ix2 0 c)) := by
  unfold k1_pay21 k1_pay15
  pointwise

theorem headStep_at (hneg : ∀ r j, neg (ix2 r j) = if 0 < cnt (ix2 r j) then (0 : EReal) else ⊥)
    (hbneg : ∀ r j, bneg (ix2 r j) = if 0 < bd (ix2 r j) then (0 : EReal) else ⊥)
    (heye : ∀ r j : Fin 384, eye (ix2 r j) = if r = j then (1 : EReal) else 0) (r : Fin 384) (c : Fin 64) :
    headStep q k v vm prev neg bneg cm cnt bd ltv eye (ix2 r c)
      = bStep (at2 q) (at2 k) (at2 v) (at2 cnt) (at2 bd) (at2 ltv) (at2 vm) (at2 cm 0) (prev (ix2 r c)) r c := by
  unfold headStep k1_pay22
  rw [show ∀ a b : FVec Ideal S384x64 .f32, addf a b (ix2 r c) = a (ix2 r c) + b (ix2 r c) from fun _ _ => rfl, mix_at _ _ _ _ _ _ _ _ hbneg, rest_at, sel_at _ _ _ _ heye]
  simp only [meas_at _ _ _ _ _ hneg]
  rfl

theorem neg_at (r j : Fin 384) : k1_pay8 cnt (ix2 r j) = if 0 < cnt (ix2 r j) then (0 : EReal) else ⊥ := by
  unfold_payloads
  pointwise
  rw [mask]

theorem bneg_at (r j : Fin 384) : k1_pay10 (k1_pay9 bd) (Scalar.ofBits .f32 0x00000000#32)
    (Named.named (F := Ideal) κ "mask" 0xF149F2CA#32) (ix2 r j) = if 0 < bd (ix2 r j) then (0 : EReal) else ⊥ := by
  unfold_payloads
  pointwise
  rw [mask]

theorem zero_at (r : Fin 384) (c : Fin 64) : k1_pay7 (F := Ideal) (ix2 r c) = 0 := by
  unfold_payloads
  pointwise

theorem enc_at (x p : Vec Ideal S384x64 .f32) (o : Vec Ideal S1x384x64 .f32) (r : Fin 384) (c : Fin 64) :
    k1_pay2 x p o (ix2 r c) = x (ix2 r c) + p (ix2 r c) + o (ix3 0 r c) := by
  unfold_payloads
  pointwise

theorem proj_at (x p : Vec Ideal S384x64 .f32) (o : Vec Ideal S1x384x64 .f32) (w : Vec Ideal S64x64 .f32) (r : Fin 384)
    (c : Fin 64) : k1_pay3 x p o w (ix2 r c) = ∑ k : Fin 64, k1_pay2 x p o (ix2 r k) * w (ix2 c k) := by
  unfold k1_pay3
  pointwise

theorem mean_at (x p : Vec Ideal S384x64 .f32) (o : Vec Ideal S1x384x64 .f32) (w : Vec Ideal S64x64 .f32)
    (b : Vec Ideal S384x384 .f32) (r : Fin 384) (c : Fin 64) :
    k1_pay6 x p o w b (ix2 r c) = bMean (at2 b) (at2 (k1_pay5 x p o w)) r c := by
  unfold k1_pay6
  pointwise
  rfl

theorem mid_at (e ctx : FVec Ideal S384x64 .f32) (wo : Vec Ideal S64x64 .f32) (bo g h : Vec Ideal S1x64 .f32)
    (r : Fin 384) (c : Fin 64) :
    k1_pay32 e ctx wo bo g h (ix2 r c)
      = bNorm (fun c => (∑ k : Fin 64, ctx (ix2 r k) * wo (ix2 c k)) + bo (ix2 0 c) + e (ix2 r c))
          (at2 g 0) (at2 h 0) c := by
  unfold_payloads
  pointwise
  rfl

theorem hidden_at (e ctx : FVec Ideal S384x64 .f32) (wo : Vec Ideal S64x64 .f32) (bo g h : Vec Ideal S1x64 .f32)
    (w1 : Vec Ideal S256x64 .f32) (b1 : Vec Ideal S1x256 .f32) (r : Fin 384) (f : Fin 256) :
    k1_pay33 e ctx wo bo g h w1 b1 (ix2 r f)
      = max ((∑ k : Fin 64, k1_pay32 e ctx wo bo g h (ix2 r k) * w1 (ix2 f k)) + b1 (ix2 0 f)) 0 := by
  unfold k1_pay33
  pointwise

theorem final_at (x1 : FVec Ideal S384x64 .f32) (hid : FVec Ideal S384x256 .f32) (w2 : Vec Ideal S64x256 .f32)
    (b2 g h : Vec Ideal S1x64 .f32) (r : Fin 384) (c : Fin 64) :
    k1_pay1 x1 hid w2 b2 g h (ix2 r c)
      = bNorm (fun c => (∑ f : Fin 256, hid (ix2 r f) * w2 (ix2 c f)) + b2 (ix2 0 c) + x1 (ix2 r c))
          (at2 g 0) (at2 h 0) c := by
  unfold_payloads
  pointwise
  rfl

end Cert.Body

end
-- ==== Proof.Embed.lean ====
/- The first region: for each batch, the rows the five tables of times give, once per slab of a block. -/
module

public import proofs.«01_k».proof.Proof.Tables
public import proofs.«01_k».proof.Proof.BodyOps
public import Idealize.ShloMosaic.Lib.Pipeline.ValueKit

@[expose] public section

set_option maxRecDepth 16384

noncomputable section

open Idealize.ShloMosaic Idealize.ShloMosaic.TcCoe

namespace Cert.Embed

open Cert.KernelIdeal Cert.KernelIdeal.Gen Cert.KernelIdeal.Whole Cert.Slab

/-- A row of a table picked by comparing a number with every row's. -/
theorem pick (N : ℕ) (hN : N < 2 ^ 32) (T : Fin N → EReal) (n : Fin N) (w : BitVec 32) (hw : w = BitVec.ofNat 32 n) :
    (∑ x : Fin N, (FloatOps.sitofp FTy.f32 (BitVec.setWidth 32 (IntOp.cmpi .eq w (BitVec.ofNat 32 x))) : Ideal .f32) * T x : EReal) = T n := by
  have h : ∀ x : Fin N, (FloatOps.sitofp FTy.f32 (BitVec.setWidth 32 (IntOp.cmpi .eq w (BitVec.ofNat 32 x))) : Ideal .f32)
      = if n = x then (1 : EReal) else 0 := fun x => by
    rw [hw, Tables.cmpi_eq_nat _ _ (by omega) (by omega)]
    refine (Body.bit_eq _).trans ?_
    simp only [Fin.ext_iff]
  rw [Finset.sum_eq_single n (fun x _ hx => by rw [h, if_neg (Ne.symm hx)]; exact zero_mul _) fun hx => absurd (Finset.mem_univ n) hx, h, if_pos rfl]
  exact one_mul _

section
variable (x0 : Vec Ideal S1x64x5 .i32) (x1 : Vec Ideal S70x64 .f32) (x2 : Vec Ideal S30x64 .f32) (x3 : Vec Ideal S10x64 .f32)
    (x4 : Vec Ideal S40x64 .f32) (x5 : Vec Ideal S400x64 .f32) (t : Fin 64) (n : Fin 5 → Fin 10)
    (hn : ∀ e, x0 (ix3 0 t e) = BitVec.ofNat 32 (n e))
include hn

theorem pay3_at (c : Fin 64) : k0_pay3 x0 x1 x2 x3 x4 (ix2 t c)
    = Body.at2 x1 ⟨n 0, by omega⟩ c + Body.at2 x2 ⟨n 1, by omega⟩ c + Body.at2 x3 ⟨n 2, by omega⟩ c + Body.at2 x4 ⟨n 3, by omega⟩ c := by
  unfold k0_pay3 k0_pay2
  pointwise
  exact congrArg₂ (fun a b : EReal => a + b) (congrArg₂ (fun a b : EReal => a + b) (congrArg₂ (fun a b : EReal => a + b)
    (pick 70 (by norm_num) (fun k => x1 (ix2 k c)) ⟨n 0, by omega⟩ _ (hn 0))
    (pick 30 (by norm_num) (fun k => x2 (ix2 k c)) ⟨n 1, by omega⟩ _ (hn 1)))
    (pick 10 (by norm_num) (fun k => x3 (ix2 k c)) ⟨n 2, by omega⟩ _ (hn 2)))
    (pick 40 (by norm_num) (fun k => x4 (ix2 k c)) ⟨n 3, by omega⟩ _ (hn 3))

theorem pay4_at (c : Fin 64) : (∑ k : Fin 400, (k0_pay4 x0 (ix2 t k) : EReal) * (x5 (ix2 k c) : EReal)) = x5 (ix2 ⟨n 4, by omega⟩ c) := by
  have h : ∀ k : Fin 400, k0_pay4 x0 (ix2 t k) = (FloatOps.sitofp FTy.f32 (BitVec.setWidth 32 (IntOp.cmpi .eq (x0 (ix3 0 t 4)) (BitVec.ofNat 32 k))) : Ideal .f32) := fun k => by
    unfold k0_pay4 k0_pay2
    pointwise
  refine (Finset.sum_congr rfl fun k _ => by rw [h k]).trans ?_
  exact pick 400 (by norm_num) (fun k => x5 (ix2 k c)) ⟨n 4, by omega⟩ _ (hn 4)

end

theorem stack_at (v : FVec Ideal S64x64 .f32) (a : Fin 6) (t c : Fin 64) :
    shapeCast S1x384x64 (concatenate S384x64 0 [⟨S64x64, v⟩, ⟨S64x64, v⟩, ⟨S64x64, v⟩, ⟨S64x64, v⟩, ⟨S64x64, v⟩, ⟨S64x64, v⟩] concatenates_S64x64_S64x64_S64x64_S64x64_S64x64_S64x64_S384x64_d0) shapeCasts_S384x64_S1x384x64
      (ix3 0 (slot a t) c) = v (ix2 t c) := by
  have hs : (slot a t : ℕ) = 64 * a + t := rfl
  generalize slot a t = r at hs
  pointwise
  split_ifs <;> exact congrArg (fun x => v (ix2 x c)) (Fin.ext (by dsimp only; omega))

theorem dot_at (v : FVec Ideal S64x64 .f32) (w : FVec Ideal S64x400 .f32) (x5 : Vec Ideal S400x64 .f32) (t c : Fin 64) :
    addf v (matmul dot_S64x400_S400x64_S64x64_1_0_0_1_n_n (φ₂ := .f32) (some .fp32) w x5 (constant S64x64 .f32 0x00000000#32)) (ix2 t c)
      = (v (ix2 t c) : EReal) + ∑ k : Fin 400, (w (ix2 t k) : EReal) * (x5 (ix2 k c) : EReal) := by
  pointwise

theorem out_at (x0 : Vec Ideal S1x64x5 .i32) (x1 : Vec Ideal S70x64 .f32) (x2 : Vec Ideal S30x64 .f32) (x3 : Vec Ideal S10x64 .f32)
    (x4 : Vec Ideal S40x64 .f32) (x5 : Vec Ideal S400x64 .f32) (a : Fin 6) (t : Fin 64) (n : Fin 5 → Fin 10)
    (hn : ∀ e, x0 (ix3 0 t e) = BitVec.ofNat 32 (n e)) (c : Fin 64) :
    out0_6 x0 x1 x2 x3 x4 x5 (ix3 0 (slot a t) c)
      = times (Body.at2 x1) (Body.at2 x2) (Body.at2 x3) (Body.at2 x4) (Body.at2 x5) n c := by
  have h0 : View.ld x0 r0_0 = x0 := View.ld_unit_lit _ x0 (by decide)
  have h1 : View.ld x1 r0_1 = x1 := View.ld_unit_lit _ x1 (by decide)
  have h2 : View.ld x2 r0_2 = x2 := View.ld_unit_lit _ x2 (by decide)
  have h3 : View.ld x3 r0_3 = x3 := View.ld_unit_lit _ x3 (by decide)
  have h4 : View.ld x4 r0_4 = x4 := View.ld_unit_lit _ x4 (by decide)
  have h5 : View.ld x5 r0_5 = x5 := View.ld_unit_lit _ x5 (by decide)
  unfold out0_6
  refine (congrFun (View.canon_cons_unit_lit _ _ _ (by decide)) _).trans ?_
  rw [h0, h1, h2, h3, h4, h5]
  unfold k0_pay1
  refine (stack_at _ a t c).trans ((dot_at _ _ _ t c).trans ?_)
  exact congrArg₂ (fun a b : EReal => a + b) (pay3_at x0 x1 x2 x3 x4 t n hn c) (pay4_at x0 x5 t n hn c)

/-! ### The blocks the region reads and the array it leaves -/

variable (c : Dev nD)

variable (V : (c : Dev nD) → (b : Ref sig .tc) → Buf (Elt Ideal) ((c : Thread nD τ).loc b))

theorem iblk_0 (t : Fin cfg0.N) (i : Fin 64) (e : Fin 5) :
    iblk0 V c 0 t (ix3 0 i e) = V c main_arg1 (ix3 ⟨t, lt_of_lt_of_eq t.isLt N_0⟩ i e) := by
  have idx : ∀ t : Fin grid0.N, win0_0.index t = ![(t : ℕ), 0, 0] := by decide +kernel
  blk_ext [iblk0, idx t]

theorem iblk_1 (t : Fin cfg0.N) (i : Fin 70) (e : Fin 64) : iblk0 V c 1 t (ix2 i e) = V c main_arg15 (ix2 i e) := by
  have idx : ∀ t : Fin grid0.N, win0_1.index t = ![0, 0] := by decide +kernel
  blk_ext [iblk0, idx t]

theorem iblk_2 (t : Fin cfg0.N) (i : Fin 30) (e : Fin 64) : iblk0 V c 2 t (ix2 i e) = V c main_arg16 (ix2 i e) := by
  have idx : ∀ t : Fin grid0.N, win0_2.index t = ![0, 0] := by decide +kernel
  blk_ext [iblk0, idx t]

theorem iblk_3 (t : Fin cfg0.N) (i : Fin 10) (e : Fin 64) : iblk0 V c 3 t (ix2 i e) = V c main_arg17 (ix2 i e) := by
  have idx : ∀ t : Fin grid0.N, win0_3.index t = ![0, 0] := by decide +kernel
  blk_ext [iblk0, idx t]

theorem iblk_4 (t : Fin cfg0.N) (i : Fin 40) (e : Fin 64) : iblk0 V c 4 t (ix2 i e) = V c main_arg18 (ix2 i e) := by
  have idx : ∀ t : Fin grid0.N, win0_4.index t = ![0, 0] := by decide +kernel
  blk_ext [iblk0, idx t]

theorem iblk_5 (t : Fin cfg0.N) (i : Fin 400) (e : Fin 64) : iblk0 V c 5 t (ix2 i e) = V c main_arg19 (ix2 i e) := by
  have idx : ∀ t : Fin grid0.N, win0_5.index t = ![0, 0] := by decide +kernel
  blk_ext [iblk0, idx t]

/-- Each slab of a batch's block holds the batch's rows of times. -/
def rows (n : Fin 2 → Fin 64 → Fin 5 → Fin 10) : S2x384x64.Idx → EReal := fun i =>
  times (fun r k => V c main_arg15 (ix2 r k)) (fun r k => V c main_arg16 (ix2 r k)) (fun r k => V c main_arg17 (ix2 r k))
    (fun r k => V c main_arg18 (ix2 r k)) (fun r k => V c main_arg19 (ix2 r k))
    (n (i 0) ⟨(i 1 : ℕ) % 64, Nat.mod_lt _ (by norm_num)⟩) (i 2)

theorem rows_at (n : Fin 2 → Fin 64 → Fin 5 → Fin 10) (b : Fin 2) (a : Fin 6) (i k : Fin 64) : rows c V n (ix3 b (slot a i) k)
    = times (fun r k => V c main_arg15 (ix2 r k)) (fun r k => V c main_arg16 (ix2 r k)) (fun r k => V c main_arg17 (ix2 r k))
    (fun r k => V c main_arg18 (ix2 r k)) (fun r k => V c main_arg19 (ix2 r k)) (n b i) k :=
  congrArg (fun x => times _ _ _ _ _ (n b x) k) (Tables.slot_mod a i)

variable (n : Fin 2 → Fin 64 → Fin 5 → Fin 10) (hn : ∀ b t e, V c main_arg1 (ix3 b t e) = BitVec.ofNat 32 (n b t e))
include hn

theorem point (t : Fin cfg0.N) (a : Fin 6) (i k : Fin 64) :
    out0_6 (iblk0 V c 0 t) (iblk0 V c 1 t) (iblk0 V c 2 t) (iblk0 V c 3 t) (iblk0 V c 4 t) (iblk0 V c 5 t) (ix3 0 (slot a i) k)
      = rows c V n (ix3 ⟨t, lt_of_lt_of_eq t.isLt N_0⟩ (slot a i) k) := by
  have h1 : Body.at2 (iblk0 V c 1 t) = fun r k => V c main_arg15 (ix2 r k) := by funext r k; exact iblk_1 c V t r k
  have h2 : Body.at2 (iblk0 V c 2 t) = fun r k => V c main_arg16 (ix2 r k) := by funext r k; exact iblk_2 c V t r k
  have h3 : Body.at2 (iblk0 V c 3 t) = fun r k => V c main_arg17 (ix2 r k) := by funext r k; exact iblk_3 c V t r k
  have h4 : Body.at2 (iblk0 V c 4 t) = fun r k => V c main_arg18 (ix2 r k) := by funext r k; exact iblk_4 c V t r k
  have h5 : Body.at2 (iblk0 V c 5 t) = fun r k => V c main_arg19 (ix2 r k) := by funext r k; exact iblk_5 c V t r k
  rw [out_at _ _ _ _ _ _ a i (n ⟨t, lt_of_lt_of_eq t.isLt N_0⟩ i) (fun e => (iblk_0 c V t i e).trans (hn _ _ _)) k, rows_at,
    h1, h2, h3, h4, h5]

/-- The array the region leaves. -/
theorem arr : (dat0 V c).arrAt 6 cfg0.N = rows c V n := by
  refine (dat0 V c).arrAt_eq_of_covers 6 _ (by decide +kernel) fun t hf y => ?_
  have idx : ∀ t : Fin grid0.N, win0_6.index t = ![(t : ℕ), 0, 0] := by decide +kernel
  have hy : ∀ y : S1x384x64.Idx, ∃ (a : Fin 6) (i k : Fin 64), y = ix3 0 (slot a i) k := fun y => by
    obtain ⟨a, i, h⟩ := exists_slot (y 1)
    exact ⟨a, i, y 2, by
      funext x
      match x with
      | ⟨0, _⟩ => exact Subsingleton.elim (α := Fin 1) _ _
      | ⟨1, _⟩ => exact h
      | ⟨2, _⟩ => rfl⟩
  obtain ⟨a, i, k, rfl⟩ := hy y
  blk_simp
  rw [after0_6]
  refine (point c V n hn t a i k).trans ?_
  generalize rows c V n = G
  blk_ext [idx t]

end Cert.Embed

end
-- ==== Proof.Body.lean ====
/- What a block's body leaves in its output: on each of the six slabs, the layer's formula. -/
module

public import proofs.«01_k».proof.Proof.KernelIdealRegions
public import proofs.«01_k».proof.Proof.BodyOps
public import Idealize.ShloMosaic.Lib.Pipeline.ValueKit

@[expose] public section

set_option maxRecDepth 16384

noncomputable section

open Idealize.ShloMosaic

namespace Cert.Body

open Cert.KernelIdeal Cert.KernelIdeal.Gen Cert.KernelIdeal.Whole Cert.Slab

/-- The blocks the body reads. -/
structure Ins where
  x : Vec Ideal S384x64 .f32
  off : Vec Ideal S1x384x64 .f32
  wq : Vec Ideal S64x64 .f32
  wk : Vec Ideal S64x64 .f32
  wv : Vec Ideal S64x64 .f32
  wo : Vec Ideal S64x64 .f32
  bo : Vec Ideal S1x64 .f32
  g1 : Vec Ideal S1x64 .f32
  h1 : Vec Ideal S1x64 .f32
  g2 : Vec Ideal S1x64 .f32
  h2 : Vec Ideal S1x64 .f32
  w1 : Vec Ideal S256x64 .f32
  b1 : Vec Ideal S1x256 .f32
  w2 : Vec Ideal S64x256 .f32
  b2 : Vec Ideal S1x64 .f32
  cm : Vec Ideal S4x64 .f32
  cnt : Vec Ideal S384x384 .f32
  bd : Vec Ideal S384x384 .f32
  bmean : Vec Ideal S384x384 .f32
  ltv : Vec Ideal S384x384 .f32
  eye : Vec Ideal S384x384 .f32
  pe : Vec Ideal S384x64 .f32

namespace Ins

variable (I : Ins)

/-- The output block. -/
def out : Vec Ideal S384x64 .f32 :=
  out1_22 (F := Ideal) I.x I.off I.wq I.wk I.wv I.wo I.bo I.g1 I.h1 I.g2 I.h2 I.w1 I.b1 I.w2 I.b2 I.cm I.cnt I.bd I.bmean I.ltv I.eye I.pe

/-- The layer's weights as the blocks hold them. -/
def weights : Weights where
  q := at2 I.wq
  k := at2 I.wk
  v := at2 I.wv
  o := at2 I.wo
  bo := at2 I.bo 0
  g1 := at2 I.g1 0
  h1 := at2 I.h1 0
  g2 := at2 I.g2 0
  h2 := at2 I.h2 0
  w1 := at2 I.w1
  b1 := at2 I.b1 0
  w2 := at2 I.w2
  b2 := at2 I.b2 0

/-- The encoded rows. -/
def enc : FVec Ideal S384x64 .f32 := k1_pay2 I.x I.pe I.off

/-- A head's lanes, a row of the table of lanes. -/
def cmRow (h : Fin 4) : Vec Ideal S1x64 .f32 := fun j => I.cm (ix2 h (j 1))

def neg : FVec Ideal S384x384 .f32 := k1_pay8 I.cnt
def bneg : FVec Ideal S384x384 .f32 := k1_pay10 (k1_pay9 I.bd) (Scalar.ofBits .f32 0x00000000#32) (Named.named (F := Ideal) κ "mask" 0xF149F2CA#32)

def q : FVec Ideal S384x64 .f32 := k1_pay3 I.x I.pe I.off I.wq
def k : FVec Ideal S384x64 .f32 := k1_pay4 I.x I.pe I.off I.wk
def v : FVec Ideal S384x64 .f32 := k1_pay5 I.x I.pe I.off I.wv
def vm : FVec Ideal S384x64 .f32 := k1_pay6 I.x I.pe I.off I.wv I.bmean

def step (h : Fin 4) (prev : FVec Ideal S384x64 .f32) : FVec Ideal S384x64 .f32 :=
  headStep I.q I.k I.v I.vm prev I.neg I.bneg (I.cmRow h) I.cnt I.bd I.ltv I.eye

def ctx : FVec Ideal S384x64 .f32 := I.step 3 (I.step 2 (I.step 1 (I.step 0 (k1_pay7 (F := Ideal)))))

def mid : FVec Ideal S384x64 .f32 := k1_pay32 I.enc I.ctx I.wo I.bo I.g1 I.h1

theorem ld_row0 : View.ld I.cm r1_4 = I.cmRow 0 := by
  funext j
  idx_vars j
  pointwise
  rfl

theorem ld_row1 : View.ld I.cm r1_5 = I.cmRow 1 := by
  funext j
  idx_vars j
  pointwise
  rfl

theorem ld_row2 : View.ld I.cm r1_6 = I.cmRow 2 := by
  funext j
  idx_vars j
  pointwise
  rfl

theorem ld_row3 : View.ld I.cm r1_7 = I.cmRow 3 := by
  funext j
  idx_vars j
  pointwise
  rfl

theorem ld0 (x : Vec Ideal S384x64 .f32) : View.ld x r1_0 = x := View.ld_unit_lit _ x (by decide)
theorem ld1 (x : Vec Ideal S1x384x64 .f32) : View.ld x r1_1 = x := View.ld_unit_lit _ x (by decide)
theorem ld2 (x : Vec Ideal S64x64 .f32) : View.ld x r1_2 = x := View.ld_unit_lit _ x (by decide)
theorem ld3 (x : Vec Ideal S384x384 .f32) : View.ld x r1_3 = x := View.ld_unit_lit _ x (by decide)
theorem ld8 (x : Vec Ideal S1x64 .f32) : View.ld x r1_8 = x := View.ld_unit_lit _ x (by decide)
theorem ld9 (x : Vec Ideal S256x64 .f32) : View.ld x r1_9 = x := View.ld_unit_lit _ x (by decide)
theorem ld10 (x : Vec Ideal S1x256 .f32) : View.ld x r1_10 = x := View.ld_unit_lit _ x (by decide)
theorem ld11 (x : Vec Ideal S64x256 .f32) : View.ld x r1_11 = x := View.ld_unit_lit _ x (by decide)

theorem out_eq : I.out = k1_pay1 I.mid (k1_pay33 I.enc I.ctx I.wo I.bo I.g1 I.h1 I.w1 I.b1) I.w2 I.b2 I.g2 I.h2 := by
  unfold out out1_22
  refine (View.canon_cons_unit_lit _ _ _ (by decide)).trans ?_
  simp only [k1_pay44, k1_pay43, k1_pay42, k1_pay41, k1_pay40, k1_pay39, k1_pay38, k1_pay37, k1_pay36, k1_pay35, k1_pay34,
    ld_row0, ld_row1, ld_row2, ld_row3, ld0, ld1, ld2, ld3, ld8, ld9, ld10, ld11]
  rw [head0, head1, head2, head3]
  unfold mid enc ctx step q k v vm neg bneg
  rfl

theorem mid_eq (r : Fin 384) (c : Fin 64) : I.mid (ix2 r c) = bNorm (fun c => (∑ k : Fin 64, I.ctx (ix2 r k) * I.wo (ix2 c k))
    + I.bo (ix2 0 c) + I.enc (ix2 r c)) (at2 I.g1 0) (at2 I.h1 0) c := mid_at _ _ _ _ _ _ r c

/-- The slab of encoded rows. -/
def slabEnc (a : Fin 6) : Mat := part a (at2 I.enc)

theorem part_q (a : Fin 6) : part a (at2 I.q) = proj I.weights.q (I.slabEnc a) := by
  funext t c; exact proj_at _ _ _ _ _ _
theorem part_k (a : Fin 6) : part a (at2 I.k) = proj I.weights.k (I.slabEnc a) := by
  funext t c; exact proj_at _ _ _ _ _ _
theorem part_v (a : Fin 6) : part a (at2 I.v) = proj I.weights.v (I.slabEnc a) := by
  funext t c; exact proj_at _ _ _ _ _ _

variable {I} {ix : Fin 64 → Fin 25 → Fin 64}

theorem ctx_slot (T : IsTables ix (at2 I.cnt) (at2 I.bd) (at2 I.bmean) (at2 I.ltv) (at2 I.eye))
    (H : ∀ h, IsHead h (at2 I.cm h)) (a : Fin 6) (i : Fin 64)
    (hr : ∀ h j, IsReal (logit (proj I.weights.q (I.slabEnc a)) (proj I.weights.k (I.slabEnc a)) h i j)) (c : Fin 64) :
    I.ctx (ix2 (slot a i) c) = Slab.ctx ix (proj I.weights.q (I.slabEnc a)) (proj I.weights.k (I.slabEnc a))
      (proj I.weights.v (I.slabEnc a)) i c := by
  have hvm : at2 I.vm = bMean (at2 I.bmean) (at2 I.v) := by funext r c; exact mean_at _ _ _ _ _ _ _
  have hs : ∀ h prev, I.step h prev (ix2 (slot a i) c)
      = bStep (at2 I.q) (at2 I.k) (at2 I.v) (at2 I.cnt) (at2 I.bd) (at2 I.ltv) (bMean (at2 I.bmean) (at2 I.v))
        (at2 I.cm h) (prev (ix2 (slot a i) c)) (slot a i) c := fun h prev => by
    rw [← hvm]
    exact headStep_at _ _ _ _ _ _ _ _ _ _ _ _ (neg_at _) (bneg_at _) T.eye _ _
  rw [← part_q, ← part_k, ← part_v] at *
  unfold ctx
  rw [hs, hs, hs, hs, zero_at]
  exact bCtx_slot _ _ _ T (fun h => at2 I.cm h) H a i hr c

theorem mid_slot (T : IsTables ix (at2 I.cnt) (at2 I.bd) (at2 I.bmean) (at2 I.ltv) (at2 I.eye))
    (H : ∀ h, IsHead h (at2 I.cm h)) (a : Fin 6) (i : Fin 64)
    (hr : ∀ h j, IsReal (logit (proj I.weights.q (I.slabEnc a)) (proj I.weights.k (I.slabEnc a)) h i j)) (c : Fin 64) :
    I.mid (ix2 (slot a i) c) = Slab.mid ix I.weights (I.slabEnc a) i c := by
  rw [mid_eq, bNorm_eq]
  simp only [ctx_slot T H a i hr]
  rfl

/-- The output block on slab `a`. -/
theorem out_slot (T : IsTables ix (at2 I.cnt) (at2 I.bd) (at2 I.bmean) (at2 I.ltv) (at2 I.eye))
    (H : ∀ h, IsHead h (at2 I.cm h)) (a : Fin 6) (i : Fin 64)
    (hr : ∀ h j, IsReal (logit (proj I.weights.q (I.slabEnc a)) (proj I.weights.k (I.slabEnc a)) h i j)) (c : Fin 64) :
    I.out (ix2 (slot a i) c) = layer ix I.weights (I.slabEnc a) i c := by
  rw [out_eq, final_at, bNorm_eq]
  simp only [hidden_at]
  simp only [show k1_pay32 I.enc I.ctx I.wo I.bo I.g1 I.h1 = I.mid from rfl, mid_slot T H a i hr]
  rfl

end Ins
end Cert.Body

end
-- ==== Proof.Blocks.lean ====
/- The second region's blocks, and the buffers they are cut from. -/
module

public import proofs.«01_k».proof.Proof.Embed
public import proofs.«01_k».proof.Proof.Body

@[expose] public section

set_option maxRecDepth 16384

noncomputable section

open Idealize.ShloMosaic Idealize.ShloMosaic.TcCoe

namespace Cert.Blocks

open Cert.KernelIdeal Cert.KernelIdeal.Gen Cert.KernelIdeal.Whole Cert.Slab

section
variable (c : Dev nD) (V : (c : Dev nD) → (b : Ref sig .tc) → Buf (Elt Ideal) ((c : Thread nD τ).loc b))

theorem iblk_0 (t : Fin cfg1.N) (r : Fin 384) (k : Fin 64) : iblk1 V c 0 t (ix2 r k)
    = V c main_v34 (ix2 ⟨(t : ℕ) * 384 + r, by have := lt_of_lt_of_eq t.isLt N_1; omega⟩ k) := by
  have idx : ∀ t : Fin grid1.N, win1_0.index t = ![(t : ℕ), 0] := by decide +kernel
  blk_ext [iblk1, idx t]

theorem iblk_1 (t : Fin cfg1.N) (r : Fin 384) (k : Fin 64) : iblk1 V c 1 t (ix3 0 r k)
    = V c main_v33 (ix3 ⟨(t : ℕ) / 50, by have := lt_of_lt_of_eq t.isLt N_1; omega⟩ r k) := by
  have idx : ∀ t : Fin grid1.N, win1_1.index t = ![(t : ℕ) / 50, 0, 0] := by decide +kernel
  blk_ext [iblk1, idx t]

theorem iblk_2 (t : Fin cfg1.N) : Body.at2 (iblk1 V c 2 t) = fun (r : Fin 64) (k : Fin 64) => V c main_arg2 (ix2 r k) := by
  have idx : ∀ t : Fin grid1.N, win1_2.index t = ![0, 0] := by decide +kernel
  funext r k
  unfold Body.at2
  blk_ext [iblk1, idx t]

theorem iblk_3 (t : Fin cfg1.N) : Body.at2 (iblk1 V c 3 t) = fun (r : Fin 64) (k : Fin 64) => V c main_arg3 (ix2 r k) := by
  have idx : ∀ t : Fin grid1.N, win1_3.index t = ![0, 0] := by decide +kernel
  funext r k
  unfold Body.at2
  blk_ext [iblk1, idx t]

theorem iblk_4 (t : Fin cfg1.N) : Body.at2 (iblk1 V c 4 t) = fun (r : Fin 64) (k : Fin 64) => V c main_arg4 (ix2 r k) := by
  have idx : ∀ t : Fin grid1.N, win1_4.index t = ![0, 0] := by decide +kernel
  funext r k
  unfold Body.at2
  blk_ext [iblk1, idx t]

theorem iblk_5 (t : Fin cfg1.N) : Body.at2 (iblk1 V c 5 t) = fun (r : Fin 64) (k : Fin 64) => V c main_arg5 (ix2 r k) := by
  have idx : ∀ t : Fin grid1.N, win1_5.index t = ![0, 0] := by decide +kernel
  funext r k
  unfold Body.at2
  blk_ext [iblk1, idx t]

theorem iblk_6 (t : Fin cfg1.N) : Body.at2 (iblk1 V c 6 t) = fun (r : Fin 1) (k : Fin 64) => V c main_v35 (ix2 r k) := by
  have idx : ∀ t : Fin grid1.N, win1_6.index t = ![0, 0] := by decide +kernel
  funext r k
  unfold Body.at2
  blk_ext [iblk1, idx t]

theorem iblk_7 (t : Fin cfg1.N) : Body.at2 (iblk1 V c 7 t) = fun (r : Fin 1) (k : Fin 64) => V c main_v36 (ix2 r k) := by
  have idx : ∀ t : Fin grid1.N, win1_7.index t = ![0, 0] := by decide +kernel
  funext r k
  unfold Body.at2
  blk_ext [iblk1, idx t]

theorem iblk_8 (t : Fin cfg1.N) : Body.at2 (iblk1 V c 8 t) = fun (r : Fin 1) (k : Fin 64) => V c main_v37 (ix2 r k) := by
  have idx : ∀ t : Fin grid1.N, win1_8.index t = ![0, 0] := by decide +kernel
  funext r k
  unfold Body.at2
  blk_ext [iblk1, idx t]

theorem iblk_9 (t : Fin cfg1.N) : Body.at2 (iblk1 V c 9 t) = fun (r : Fin 1) (k : Fin 64) => V c main_v38 (ix2 r k) := by
  have idx : ∀ t : Fin grid1.N, win1_9.index t = ![0, 0] := by decide +kernel
  funext r k
  unfold Body.at2
  blk_ext [iblk1, idx t]

theorem iblk_10 (t : Fin cfg1.N) : Body.at2 (iblk1 V c 10 t) = fun (r : Fin 1) (k : Fin 64) => V c main_v39 (ix2 r k) := by
  have idx : ∀ t : Fin grid1.N, win1_10.index t = ![0, 0] := by decide +kernel
  funext r k
  unfold Body.at2
  blk_ext [iblk1, idx t]

theorem iblk_11 (t : Fin cfg1.N) : Body.at2 (iblk1 V c 11 t) = fun (r : Fin 256) (k : Fin 64) => V c main_arg11 (ix2 r k) := by
  have idx : ∀ t : Fin grid1.N, win1_11.index t = ![0, 0] := by decide +kernel
  funext r k
  unfold Body.at2
  blk_ext [iblk1, idx t]

theorem iblk_12 (t : Fin cfg1.N) : Body.at2 (iblk1 V c 12 t) = fun (r : Fin 1) (k : Fin 256) => V c main_v40 (ix2 r k) := by
  have idx : ∀ t : Fin grid1.N, win1_12.index t = ![0, 0] := by decide +kernel
  funext r k
  unfold Body.at2
  blk_ext [iblk1, idx t]

theorem iblk_13 (t : Fin cfg1.N) : Body.at2 (iblk1 V c 13 t) = fun (r : Fin 64) (k : Fin 256) => V c main_arg13 (ix2 r k) := by
  have idx : ∀ t : Fin grid1.N, win1_13.index t = ![0, 0] := by decide +kernel
  funext r k
  unfold Body.at2
  blk_ext [iblk1, idx t]

theorem iblk_14 (t : Fin cfg1.N) : Body.at2 (iblk1 V c 14 t) = fun (r : Fin 1) (k : Fin 64) => V c main_v41 (ix2 r k) := by
  have idx : ∀ t : Fin grid1.N, win1_14.index t = ![0, 0] := by decide +kernel
  funext r k
  unfold Body.at2
  blk_ext [iblk1, idx t]

theorem iblk_15 (t : Fin cfg1.N) : Body.at2 (iblk1 V c 15 t) = fun (r : Fin 4) (k : Fin 64) => V c main_v29 (ix2 r k) := by
  have idx : ∀ t : Fin grid1.N, win1_15.index t = ![0, 0] := by decide +kernel
  funext r k
  unfold Body.at2
  blk_ext [iblk1, idx t]

theorem iblk_16 (t : Fin cfg1.N) : Body.at2 (iblk1 V c 16 t) = fun (r : Fin 384) (k : Fin 384) => V c main_v17 (ix2 r k) := by
  have idx : ∀ t : Fin grid1.N, win1_16.index t = ![0, 0] := by decide +kernel
  funext r k
  unfold Body.at2
  blk_ext [iblk1, idx t]

theorem iblk_17 (t : Fin cfg1.N) : Body.at2 (iblk1 V c 17 t) = fun (r : Fin 384) (k : Fin 384) => V c main_v13 (ix2 r k) := by
  have idx : ∀ t : Fin grid1.N, win1_17.index t = ![0, 0] := by decide +kernel
  funext r k
  unfold Body.at2
  blk_ext [iblk1, idx t]

theorem iblk_18 (t : Fin cfg1.N) : Body.at2 (iblk1 V c 18 t) = fun (r : Fin 384) (k : Fin 384) => V c main_v19 (ix2 r k) := by
  have idx : ∀ t : Fin grid1.N, win1_18.index t = ![0, 0] := by decide +kernel
  funext r k
  unfold Body.at2
  blk_ext [iblk1, idx t]

theorem iblk_19 (t : Fin cfg1.N) : Body.at2 (iblk1 V c 19 t) = fun (r : Fin 384) (k : Fin 384) => V c main_v22 (ix2 r k) := by
  have idx : ∀ t : Fin grid1.N, win1_19.index t = ![0, 0] := by decide +kernel
  funext r k
  unfold Body.at2
  blk_ext [iblk1, idx t]

theorem iblk_20 (t : Fin cfg1.N) : Body.at2 (iblk1 V c 20 t) = fun (r : Fin 384) (k : Fin 384) => V c main_v24 (ix2 r k) := by
  have idx : ∀ t : Fin grid1.N, win1_20.index t = ![0, 0] := by decide +kernel
  funext r k
  unfold Body.at2
  blk_ext [iblk1, idx t]

theorem iblk_21 (t : Fin cfg1.N) : Body.at2 (iblk1 V c 21 t) = fun (r : Fin 384) (k : Fin 64) => V c main_v32 (ix2 r k) := by
  have idx : ∀ t : Fin grid1.N, win1_21.index t = ![0, 0] := by decide +kernel
  funext r k
  unfold Body.at2
  blk_ext [iblk1, idx t]

/-- The blocks read at a point. -/
def ins (t : Fin cfg1.N) : Body.Ins where
  x := iblk1 V c 0 t
  off := iblk1 V c 1 t
  wq := iblk1 V c 2 t
  wk := iblk1 V c 3 t
  wv := iblk1 V c 4 t
  wo := iblk1 V c 5 t
  bo := iblk1 V c 6 t
  g1 := iblk1 V c 7 t
  h1 := iblk1 V c 8 t
  g2 := iblk1 V c 9 t
  h2 := iblk1 V c 10 t
  w1 := iblk1 V c 11 t
  b1 := iblk1 V c 12 t
  w2 := iblk1 V c 13 t
  b2 := iblk1 V c 14 t
  cm := iblk1 V c 15 t
  cnt := iblk1 V c 16 t
  bd := iblk1 V c 17 t
  bmean := iblk1 V c 18 t
  ltv := iblk1 V c 19 t
  eye := iblk1 V c 20 t
  pe := iblk1 V c 21 t

end

/-! ### The buffers at the region's entry -/

variable (m : (ℓ : Loc nD τ sig) → Buf (Elt Ideal) ℓ) (ρ : Dev nD → PrngReg) (c : Dev nD)

theorem arg (a : Ref sig .tc) (h : a ∈ argRefs) : V15 m ρ c a = m ((c : Thread nD τ).loc a) := W15_args m ρ c a h

theorem v34 (R : Fin 38400) (k : Fin 64) : V15 m ρ c main_v34 (ix2 R k)
    = m ((c : Thread nD τ).loc main_arg0) (ix4 ⟨(R : ℕ) / 19200, by omega⟩ ⟨(R : ℕ) / 64 % 300, by omega⟩ ⟨(R : ℕ) % 64, by omega⟩ k) := by
  rw [← W14_args m ρ c main_arg0 (by decide)]
  show StableHlo.after hostOps1 (W14 m ρ c) (Proc.devRef .tc main_v34) (ix2 R k) = _
  generalize W14 m ρ c = V
  after_reads_at

theorem v35 (k : Fin 64) : V15 m ρ c main_v35 (ix2 0 k) = m ((c : Thread nD τ).loc main_arg6) (ix1 k) := by
  rw [← W14_args m ρ c main_arg6 (by decide)]
  show StableHlo.after hostOps1 (W14 m ρ c) (Proc.devRef .tc main_v35) (ix2 0 k) = _
  generalize W14 m ρ c = V
  after_reads_at

theorem v36 (k : Fin 64) : V15 m ρ c main_v36 (ix2 0 k) = m ((c : Thread nD τ).loc main_arg7) (ix1 k) := by
  rw [← W14_args m ρ c main_arg7 (by decide)]
  show StableHlo.after hostOps1 (W14 m ρ c) (Proc.devRef .tc main_v36) (ix2 0 k) = _
  generalize W14 m ρ c = V
  after_reads_at

theorem v37 (k : Fin 64) : V15 m ρ c main_v37 (ix2 0 k) = m ((c : Thread nD τ).loc main_arg8) (ix1 k) := by
  rw [← W14_args m ρ c main_arg8 (by decide)]
  show StableHlo.after hostOps1 (W14 m ρ c) (Proc.devRef .tc main_v37) (ix2 0 k) = _
  generalize W14 m ρ c = V
  after_reads_at

theorem v38 (k : Fin 64) : V15 m ρ c main_v38 (ix2 0 k) = m ((c : Thread nD τ).loc main_arg9) (ix1 k) := by
  rw [← W14_args m ρ c main_arg9 (by decide)]
  show StableHlo.after hostOps1 (W14 m ρ c) (Proc.devRef .tc main_v38) (ix2 0 k) = _
  generalize W14 m ρ c = V
  after_reads_at

theorem v39 (k : Fin 64) : V15 m ρ c main_v39 (ix2 0 k) = m ((c : Thread nD τ).loc main_arg10) (ix1 k) := by
  rw [← W14_args m ρ c main_arg10 (by decide)]
  show StableHlo.after hostOps1 (W14 m ρ c) (Proc.devRef .tc main_v39) (ix2 0 k) = _
  generalize W14 m ρ c = V
  after_reads_at

theorem v40 (k : Fin 256) : V15 m ρ c main_v40 (ix2 0 k) = m ((c : Thread nD τ).loc main_arg12) (ix1 k) := by
  rw [← W14_args m ρ c main_arg12 (by decide)]
  show StableHlo.after hostOps1 (W14 m ρ c) (Proc.devRef .tc main_v40) (ix2 0 k) = _
  generalize W14 m ρ c = V
  after_reads_at

theorem v41 (k : Fin 64) : V15 m ρ c main_v41 (ix2 0 k) = m ((c : Thread nD τ).loc main_arg14) (ix1 k) := by
  rw [← W14_args m ρ c main_arg14 (by decide)]
  show StableHlo.after hostOps1 (W14 m ρ c) (Proc.devRef .tc main_v41) (ix2 0 k) = _
  generalize W14 m ρ c = V
  after_reads_at

theorem v33 (n : Fin 2 → Fin 64 → Fin 5 → Fin 10) (hn : ∀ b t e, m ((c : Thread nD τ).loc main_arg1) (ix3 b t e) = BitVec.ofNat 32 (n b t e)) :
    V15 m ρ c main_v33 = Embed.rows c (V13 m ρ) n := by
  have h : V15 m ρ c main_v33 = W14 m ρ c (Proc.devRef .tc main_v33) := W15_of m ρ c main_v33 (by decide)
  have h' : W14 m ρ c (Proc.devRef .tc main_v33) = (dat0 (V13 m ρ) c).arrAt 6 cfg0.N := W14_arr m ρ c 6
  rw [h, h']
  refine Embed.arr c (V13 m ρ) n fun b t e => ?_
  have : V13 m ρ c main_arg1 = m ((c : Thread nD τ).loc main_arg1) := W13_args m ρ c main_arg1 (by decide)
  rw [this]
  exact hn b t e

end Cert.Blocks

end
-- ==== Proof.KernelValue.lean ====
/- The kernel's result: the array the second region's blocks tile. -/
module

public import proofs.«01_k».proof.Proof.Blocks

@[expose] public section

set_option maxRecDepth 16384

noncomputable section

open Idealize.ShloMosaic Idealize.ShloMosaic.TcCoe

namespace Cert.KernelValue

open Cert.KernelIdeal Cert.KernelIdeal.Gen Cert.KernelIdeal.Whole Cert.Slab Cert.Blocks

theorem weights_ext {A B : Weights} (h0 : A.q = B.q) (h1 : A.k = B.k) (h2 : A.v = B.v) (h3 : A.o = B.o) (h4 : A.bo = B.bo) (h5 : A.g1 = B.g1) (h6 : A.h1 = B.h1) (h7 : A.g2 = B.g2) (h8 : A.h2 = B.h2) (h9 : A.w1 = B.w1) (h10 : A.b1 = B.b1) (h11 : A.w2 = B.w2) (h12 : A.b2 = B.b2) : A = B := by
  cases A; cases B
  simp only at h0 h1 h2 h3 h4 h5 h6 h7 h8 h9 h10 h11 h12
  subst h0 h1 h2 h3 h4 h5 h6 h7 h8 h9 h10 h11 h12
  rfl

section
variable (c : Dev nD) (V : (c : Dev nD) → (b : Ref sig .tc) → Buf (Elt Ideal) ((c : Thread nD τ).loc b))

theorem iblk_pe (t : Fin cfg1.N) (r : Fin 384) (k : Fin 64) : (ins c V t).pe (ix2 r k) = V c main_v32 (ix2 r k) :=
  congrFun (congrFun (iblk_21 c V t) r) k

/-- The weights in the buffers. -/
def bufW : Weights where
  q r k := V c main_arg2 (ix2 r k)
  k r k := V c main_arg3 (ix2 r k)
  v r k := V c main_arg4 (ix2 r k)
  o r k := V c main_arg5 (ix2 r k)
  bo k := V c main_v35 (ix2 0 k)
  g1 k := V c main_v36 (ix2 0 k)
  h1 k := V c main_v37 (ix2 0 k)
  g2 k := V c main_v38 (ix2 0 k)
  h2 k := V c main_v39 (ix2 0 k)
  w1 r k := V c main_arg11 (ix2 r k)
  b1 k := V c main_v40 (ix2 0 k)
  w2 r k := V c main_arg13 (ix2 r k)
  b2 k := V c main_v41 (ix2 0 k)

theorem bufW_eq (A : Weights) (hq : ∀ r k, V c main_arg2 (ix2 r k) = A.q r k) (hk : ∀ r k, V c main_arg3 (ix2 r k) = A.k r k) (hv : ∀ r k, V c main_arg4 (ix2 r k) = A.v r k) (ho : ∀ r k, V c main_arg5 (ix2 r k) = A.o r k) (hbo : ∀ k, V c main_v35 (ix2 0 k) = A.bo k) (hg1 : ∀ k, V c main_v36 (ix2 0 k) = A.g1 k) (hh1 : ∀ k, V c main_v37 (ix2 0 k) = A.h1 k) (hg2 : ∀ k, V c main_v38 (ix2 0 k) = A.g2 k) (hh2 : ∀ k, V c main_v39 (ix2 0 k) = A.h2 k) (hw1 : ∀ r k, V c main_arg11 (ix2 r k) = A.w1 r k) (hb1 : ∀ k, V c main_v40 (ix2 0 k) = A.b1 k) (hw2 : ∀ r k, V c main_arg13 (ix2 r k) = A.w2 r k) (hb2 : ∀ k, V c main_v41 (ix2 0 k) = A.b2 k) :
    bufW c V = A :=
  weights_ext (funext fun r => funext fun k => hq r k) (funext fun r => funext fun k => hk r k) (funext fun r => funext fun k => hv r k) (funext fun r => funext fun k => ho r k) (funext fun k => hbo k) (funext fun k => hg1 k) (funext fun k => hh1 k) (funext fun k => hg2 k) (funext fun k => hh2 k) (funext fun r => funext fun k => hw1 r k) (funext fun k => hb1 k) (funext fun r => funext fun k => hw2 r k) (funext fun k => hb2 k)

theorem weights_of (t : Fin cfg1.N) : (ins c V t).weights = bufW c V := by
  refine weights_ext ?_ ?_ ?_ ?_ ?_ ?_ ?_ ?_ ?_ ?_ ?_ ?_ ?_
  · exact iblk_2 c V t
  · exact iblk_3 c V t
  · exact iblk_4 c V t
  · exact iblk_5 c V t
  · exact congrFun (iblk_6 c V t) 0
  · exact congrFun (iblk_7 c V t) 0
  · exact congrFun (iblk_8 c V t) 0
  · exact congrFun (iblk_9 c V t) 0
  · exact congrFun (iblk_10 c V t) 0
  · exact iblk_11 c V t
  · exact congrFun (iblk_12 c V t) 0
  · exact iblk_13 c V t
  · exact congrFun (iblk_14 c V t) 0

set_option maxHeartbeats 1000000 in
/-- The region's array, from its blocks at their rows. -/
theorem arr_of (G : S38400x64.Idx → EReal) (hG : ∀ (t : Fin cfg1.N) (a : Fin 6) (i k : Fin 64), (ins c V t).out (ix2 (slot a i) k)
      = G (ix2 ⟨(t : ℕ) * 384 + slot a i, by have := lt_of_lt_of_eq t.isLt N_1; omega⟩ k)) :
    (dat1 V c).arrAt 22 cfg1.N = G := by
  have cov : (cfg1.win 22).Covers := by decide +kernel
  refine (dat1 V c).arrAt_eq_of_covers 22 _ cov fun t hfl y => ?_
  have idx : ∀ t : Fin grid1.N, win1_22.index t = ![(t : ℕ), 0] := by decide +kernel
  have hy : ∀ y : S384x64.Idx, ∃ (a : Fin 6) (i k : Fin 64), y = ix2 (slot a i) k := fun y => by
    obtain ⟨a, i, h⟩ := exists_slot (y 0)
    exact ⟨a, i, y 1, by
      funext x
      match x with
      | ⟨0, _⟩ => exact h
      | ⟨1, _⟩ => rfl⟩
  obtain ⟨a, i, k, rfl⟩ := hy y
  blk_simp
  rw [after1_22]
  refine (hG t a i k).trans ?_
  blk_ext [idx t]

end

variable (m : (ℓ : Loc nD τ sig) → Buf (Elt Ideal) ℓ) (ρ : Dev nD → PrngReg) (c : Dev nD) (n : Fin 2 → Fin 64 → Fin 5 → Fin 10)

/-- The kernel's arguments by coordinates. -/
def args : Args where
  x b s t k := m ((c : Thread nD τ).loc main_arg0) (ix4 b s t k)
  n := n
  W := {
    q := fun r k => m ((c : Thread nD τ).loc main_arg2) (ix2 r k)
    k := fun r k => m ((c : Thread nD τ).loc main_arg3) (ix2 r k)
    v := fun r k => m ((c : Thread nD τ).loc main_arg4) (ix2 r k)
    o := fun r k => m ((c : Thread nD τ).loc main_arg5) (ix2 r k)
    bo := fun k => m ((c : Thread nD τ).loc main_arg6) (ix1 k)
    g1 := fun k => m ((c : Thread nD τ).loc main_arg7) (ix1 k)
    h1 := fun k => m ((c : Thread nD τ).loc main_arg8) (ix1 k)
    g2 := fun k => m ((c : Thread nD τ).loc main_arg9) (ix1 k)
    h2 := fun k => m ((c : Thread nD τ).loc main_arg10) (ix1 k)
    w1 := fun r k => m ((c : Thread nD τ).loc main_arg11) (ix2 r k)
    b1 := fun k => m ((c : Thread nD τ).loc main_arg12) (ix1 k)
    w2 := fun r k => m ((c : Thread nD τ).loc main_arg13) (ix2 r k)
    b2 := fun k => m ((c : Thread nD τ).loc main_arg14) (ix1 k) }
  T1 r k := m ((c : Thread nD τ).loc main_arg15) (ix2 r k)
  T2 r k := m ((c : Thread nD τ).loc main_arg16) (ix2 r k)
  T3 r k := m ((c : Thread nD τ).loc main_arg17) (ix2 r k)
  T4 r k := m ((c : Thread nD τ).loc main_arg18) (ix2 r k)
  T5 r k := m ((c : Thread nD τ).loc main_arg19) (ix2 r k)

/-- The result's rows, all slabs one after the other. -/
def whole (A : Args) : S38400x64.Idx → EReal := fun i =>
  A.out ⟨(i 0 : ℕ) / 19200, by have : (i 0 : ℕ) < 38400 := (i 0).isLt; omega⟩ ⟨(i 0 : ℕ) / 64 % 300, by omega⟩ ⟨(i 0 : ℕ) % 64, by omega⟩ (i 1)

theorem whole_at (A : Args) (b : Fin 2) (s : Fin 300) (t k : Fin 64) (R : Fin 38400) (h : (R : ℕ) = ((b : ℕ) * 300 + s) * 64 + t) :
    whole A (ix2 R k) = A.out b s t k := by
  have h0 : (R : ℕ) / 19200 = b := by omega
  have h1 : (R : ℕ) / 64 % 300 = s := by omega
  have h2 : (R : ℕ) % 64 = t := by omega
  show A.out ⟨(R : ℕ) / 19200, _⟩ ⟨(R : ℕ) / 64 % 300, _⟩ ⟨(R : ℕ) % 64, _⟩ k = _
  exact congrFun (congr (congr (congrArg A.out (Fin.ext h0)) (Fin.ext h1)) (Fin.ext h2)) k

theorem a2 : V15 m ρ c main_arg2 = m ((c : Thread nD τ).loc main_arg2) := arg m ρ c main_arg2 (by decide)
theorem a3 : V15 m ρ c main_arg3 = m ((c : Thread nD τ).loc main_arg3) := arg m ρ c main_arg3 (by decide)
theorem a4 : V15 m ρ c main_arg4 = m ((c : Thread nD τ).loc main_arg4) := arg m ρ c main_arg4 (by decide)
theorem a5 : V15 m ρ c main_arg5 = m ((c : Thread nD τ).loc main_arg5) := arg m ρ c main_arg5 (by decide)
theorem a11 : V15 m ρ c main_arg11 = m ((c : Thread nD τ).loc main_arg11) := arg m ρ c main_arg11 (by decide)
theorem a13 : V15 m ρ c main_arg13 = m ((c : Thread nD τ).loc main_arg13) := arg m ρ c main_arg13 (by decide)

theorem weights (t : Fin cfg1.N) : (ins c (V15 m ρ) t).weights = (args m c n).W :=
  (weights_of c (V15 m ρ) t).trans (bufW_eq c (V15 m ρ) _
    (fun r k => congrFun (a2 m ρ c) (ix2 r k))
    (fun r k => congrFun (a3 m ρ c) (ix2 r k))
    (fun r k => congrFun (a4 m ρ c) (ix2 r k))
    (fun r k => congrFun (a5 m ρ c) (ix2 r k))
    (fun k => v35 m ρ c k)
    (fun k => v36 m ρ c k)
    (fun k => v37 m ρ c k)
    (fun k => v38 m ρ c k)
    (fun k => v39 m ρ c k)
    (fun r k => congrFun (a11 m ρ c) (ix2 r k))
    (fun k => v40 m ρ c k)
    (fun r k => congrFun (a13 m ρ c) (ix2 r k))
    (fun k => v41 m ρ c k))

theorem tables (t : Fin cfg1.N) : IsTables ix (Body.at2 (ins c (V15 m ρ) t).cnt) (Body.at2 (ins c (V15 m ρ) t).bd)
    (Body.at2 (ins c (V15 m ρ) t).bmean) (Body.at2 (ins c (V15 m ρ) t).ltv) (Body.at2 (ins c (V15 m ρ) t).eye) := by
  unfold ins
  dsimp only
  rw [iblk_16, iblk_17, iblk_18, iblk_19, iblk_20]
  exact Tables.tables m ρ c

theorem heads (t : Fin cfg1.N) (h : Fin 4) : IsHead h (Body.at2 (ins c (V15 m ρ) t).cm h) := by
  unfold ins
  dsimp only
  rw [iblk_15]
  exact Tables.heads m ρ c h

variable (hn : ∀ b t e, m ((c : Thread nD τ).loc main_arg1) (ix3 b t e) = BitVec.ofNat 32 (n b t e))
include hn

theorem slabEnc (t : Fin cfg1.N) (a : Fin 6) (b : Fin 2) (s : Fin 300) (hs : 6 * (t : ℕ) + a = (b : ℕ) * 300 + s) :
    (ins c (V15 m ρ) t).slabEnc a = (args m c n).enc b s := by
  funext i k
  refine (Body.enc_at _ _ _ _ _).trans ?_
  have hb : (t : ℕ) / 50 = b := by omega
  have hx : (ins c (V15 m ρ) t).x (ix2 (slot a i) k) = (args m c n).x b s i k := by
    refine (iblk_0 c (V15 m ρ) t (slot a i) k).trans ((v34 m ρ c _ k).trans ?_)
    have hv : (slot a i : ℕ) = 64 * a + i := rfl
    have e0 : ((t : ℕ) * 384 + (slot a i : ℕ)) / 19200 = b := by omega
    have e1 : ((t : ℕ) * 384 + (slot a i : ℕ)) / 64 % 300 = s := by omega
    have e2 : ((t : ℕ) * 384 + (slot a i : ℕ)) % 64 = i := by omega
    show m ((c : Thread nD τ).loc main_arg0) _ = m ((c : Thread nD τ).loc main_arg0) _
    generalize m ((c : Thread nD τ).loc main_arg0) = X
    refine congrArg X ?_
    funext q
    match q with
    | ⟨0, _⟩ => exact Fin.ext e0
    | ⟨1, _⟩ => exact Fin.ext e1
    | ⟨2, _⟩ => exact Fin.ext e2
    | ⟨3, _⟩ => rfl
  have hp : (ins c (V15 m ρ) t).pe (ix2 (slot a i) k) = pe i k :=
    (iblk_pe c (V15 m ρ) t (slot a i) k).trans (Tables.pe_rows m ρ c a i k)
  have ho : (ins c (V15 m ρ) t).off (ix3 0 (slot a i) k)
      = times (args m c n).T1 (args m c n).T2 (args m c n).T3 (args m c n).T4 (args m c n).T5 ((args m c n).n b i) k := by
    refine (iblk_1 c (V15 m ρ) t (slot a i) k).trans ?_
    rw [v33 m ρ c n hn, Embed.rows_at]
    have h2 : ∀ a : Ref sig .tc, a ∈ argRefs → V13 m ρ c a = m ((c : Thread nD τ).loc a) := fun a ha => W13_args m ρ c a ha
    rw [h2 main_arg15 (by decide), h2 main_arg16 (by decide), h2 main_arg17 (by decide), h2 main_arg18 (by decide), h2 main_arg19 (by decide)]
    exact congrArg (fun x => times _ _ _ _ _ (n x i) k) (Fin.ext hb)
  rw [hx, hp, ho]
  rfl

variable (hf : (args m c n).Finite)
include hf

theorem point (t : Fin cfg1.N) (a : Fin 6) (i k : Fin 64) : (ins c (V15 m ρ) t).out (ix2 (slot a i) k)
    = whole (args m c n) (ix2 ⟨(t : ℕ) * 384 + slot a i, by have := lt_of_lt_of_eq t.isLt N_1; omega⟩ k) := by
  have ht := lt_of_lt_of_eq t.isLt N_1
  have hs : 6 * (t : ℕ) + a = (((⟨(t : ℕ) / 50, by omega⟩ : Fin 2) : ℕ)) * 300 + ((⟨(6 * (t : ℕ) + a) % 300, by omega⟩ : Fin 300) : ℕ) := by
    show 6 * (t : ℕ) + a = (t : ℕ) / 50 * 300 + (6 * (t : ℕ) + a) % 300
    omega
  rw [whole_at _ ⟨(t : ℕ) / 50, by omega⟩ ⟨(6 * (t : ℕ) + a) % 300, by omega⟩ i k _ (by
    show (t : ℕ) * 384 + (64 * a + i) = ((t : ℕ) / 50 * 300 + (6 * (t : ℕ) + a) % 300) * 64 + i
    omega)]
  refine (Body.Ins.out_slot (ix := ix) (tables m ρ c t) (heads m ρ c t) a i (fun h j => ?_) k).trans ?_
  · rw [weights m ρ c n t, slabEnc m ρ c n hn t a _ _ hs]
    exact hf.logit _ _ h i j
  · rw [weights m ρ c n t, slabEnc m ρ c n hn t a _ _ hs]
    rfl

theorem arr : (dat1 (V15 m ρ) c).arrAt 22 cfg1.N = whole (args m c n) := arr_of c (V15 m ρ) _ (point m ρ c n hn hf)

/-- The result's array. -/
theorem result (b : Fin 2) (s : Fin 300) (t k : Fin 64) :
    W17 m ρ c (Proc.devRef .tc main_v43) (ix4 b s t k) = (args m c n).out b s t k := by
  have h : W16 m ρ c (Proc.devRef .tc main_v42) = whole (args m c n) := (W16_arr m ρ c 22).trans (arr m ρ c n hn hf)
  show StableHlo.after hostOps2 (W16 m ρ c) (Proc.devRef .tc main_v43) (ix4 b s t k) = _
  generalize W16 m ρ c = V at h
  after_reads_at
  rw [h]
  exact whole_at _ b s t k _ (by show (b : ℕ) * 19200 + s * 64 + t = _; omega)

end Cert.KernelValue

end
-- ==== Proof.Gathers.lean ====
/- The reference's gathers and its scatter, each read at one index. -/
module

public import proofs.«01_k».proof.ReferenceIdeal
public import Idealize.ShloMosaic.Lib.Pointwise
public import Idealize.ShloMosaic.Lib.ValueIdxRank6
public import Idealize.ShloMosaic.Lib.Routing.OpsPair
public import Idealize.ShloMosaic.Lib.Routing.OpsSet
public import Idealize.ShloMosaic.Lib.StableHlo.Predicate

@[expose] public section

noncomputable section

open Idealize.ShloMosaic Idealize.ShloMosaic.Routing Cert.ReferenceIdeal

namespace Cert.Gathers

variable {α : Type}

theorem start_nat {w : BitVec 32} {N : ℕ} (r : Fin N) (hN : N < 2 ^ 31) (h : w = BitVec.ofNat 32 r) : min w.toInt.toNat (N - 1) = r := by
  rw [h, StableHlo.Predicate.toInt_ofNat_small _ (by have := r.isLt; omega)]
  have := r.isLt
  omega

/-- A table's rows taken at a rectangle of row numbers. -/
theorem table {N : ℕ} (wf : GatherDims.WF ⟨2, ![N, 64]⟩ S2x64x1 S2x64x64 [2] [0] [] [0] [] 2 ![1, 64]) (d : GatherDims ⟨2, ![N, 64]⟩ S2x64x1 S2x64x64)
    (hd : d = { offsetDims := [2], collapsedSliceDims := [0], operandBatchingDims := [], startIndicesBatchingDims := [], startIndexMap := [0], indexVectorDim := 2, sliceSizes := ![1, 64], wf := wf })
    (x : (⟨2, ![N, 64]⟩ : Shape).Idx → α)
    (idx : IVec S2x64x1 32) (b : Fin 2) (t k : Fin 64) (r : Fin N) (hN : N < 2 ^ 31) (h : idx (ix3 b t 0) = BitVec.ofNat 32 r) :
    Host.gather d x idx (ix3 b t k) = x (ix2 r k) := by
  subst hd
  unfold Host.gather
  refine congrArg x (funext fun a => Fin.ext ?_)
  match a with
  | ⟨0, _⟩ =>
    refine (show _ = min (idx (ix3 b t 0)).toInt.toNat (N - 1) from ?_).trans (start_nat r hN h)
    have e : ∀ c, GatherDims.siIdx ({ offsetDims := [2], collapsedSliceDims := [0], operandBatchingDims := [], startIndicesBatchingDims := [], startIndexMap := [0], indexVectorDim := 2, sliceSizes := ![1, 64], wf := wf } : GatherDims ⟨2, ![N, 64]⟩ S2x64x1 S2x64x64) (ix3 b t k) c = ix3 b t 0 := fun c => by
      funext q
      match q with
      | ⟨0, _⟩ => rfl
      | ⟨1, _⟩ => rfl
      | ⟨2, _⟩ => exact Fin.ext (by have := c.isLt; show (c : ℕ) = 0; change (c : ℕ) < 1 at this; omega)
    rw [← e ⟨0, Nat.zero_lt_one⟩]
    rfl
  | ⟨1, _⟩ => exact (Nat.zero_add _)

variable [Facts]

/-- Rows of every head and slab taken at a table of row numbers. -/
theorem rows (x : S2x4x300x64x16.Idx → α) (idx : IVec S64x25x1 32) (b : Fin 2) (h : Fin 4) (s : Fin 300) (i : Fin 64) (u : Fin 25) (e : Fin 16) (r : Fin 64)
    (hr : idx (ix3 i u 0) = BitVec.ofNat 32 r) :
    Host.gather gather_S2x4x300x64x16_S64x25x1_S2x4x300x64x25x16_0125_3_n_n_3_2_24300116 x idx (ix6 b h s i u e) = x (ix5 b h s r e) := by
  unfold Host.gather
  refine congrArg x (funext fun a => Fin.ext ?_)
  match a with
  | ⟨0, _⟩ => exact (Nat.zero_add _)
  | ⟨1, _⟩ => exact (Nat.zero_add _)
  | ⟨2, _⟩ => exact (Nat.zero_add _)
  | ⟨3, _⟩ =>
    refine (show _ = min (idx (ix3 i u 0)).toInt.toNat (64 - 1) from ?_).trans (start_nat r (by decide) hr)
    have e : ∀ c, gather_S2x4x300x64x16_S64x25x1_S2x4x300x64x25x16_0125_3_n_n_3_2_24300116.siIdx (ix6 b h s i u e) c = ix3 i u 0 := fun c => by
      funext q
      match q with
      | ⟨0, _⟩ => rfl
      | ⟨1, _⟩ => rfl
      | ⟨2, _⟩ => exact Fin.ext (by have := c.isLt; show (c : ℕ) = 0; change (c : ℕ) < 1 at this; omega)
    rw [← e ⟨0, Nat.zero_lt_one⟩]
    rfl
  | ⟨4, _⟩ => exact (Nat.zero_add _)

/-- In each head and slab, rows taken at that head's and slab's own row numbers. -/
theorem own (x : S2x4x300x64x16.Idx → α) (idx : IVec S2x4x300x25x1 32) (b : Fin 2) (h : Fin 4) (s : Fin 300) (u : Fin 25) (e : Fin 16) (r : Fin 64)
    (hr : idx (ix5 b h s u 0) = BitVec.ofNat 32 r) :
    Host.gather gather_S2x4x300x64x16_S2x4x300x25x1_S2x4x300x25x16_4_3_012_012_3_4_111116 x idx (ix5 b h s u e) = x (ix5 b h s r e) := by
  unfold Host.gather
  refine congrArg x (funext fun a => Fin.ext ?_)
  match a with
  | ⟨0, _⟩ => exact (Nat.zero_add _)
  | ⟨1, _⟩ => exact (Nat.zero_add _)
  | ⟨2, _⟩ => exact (Nat.zero_add _)
  | ⟨3, _⟩ =>
    refine (show _ = min (idx (ix5 b h s u 0)).toInt.toNat (64 - 1) from ?_).trans (start_nat r (by decide) hr)
    have e : ∀ c, gather_S2x4x300x64x16_S2x4x300x25x1_S2x4x300x25x16_4_3_012_012_3_4_111116.siIdx (ix5 b h s u e) c = ix5 b h s u 0 := fun c => by
      funext q
      match q with
      | ⟨0, _⟩ => rfl
      | ⟨1, _⟩ => rfl
      | ⟨2, _⟩ => rfl
      | ⟨3, _⟩ => rfl
      | ⟨4, _⟩ => exact Fin.ext (by have := c.isLt; show (c : ℕ) = 0; change (c : ℕ) < 1 at this; omega)
    rw [← e ⟨0, Nat.zero_lt_one⟩]
    rfl
  | ⟨4, _⟩ => exact (Nat.zero_add _)

/-- Where an update lands. -/
theorem lands (idx : IVec S2x4x300x25x4 32) (b' : Fin 2) (h' : Fin 4) (s' : Fin 300) (u : Fin 25) (e' : Fin 16) (b : Fin 2) (h : Fin 4) (s : Fin 300) (i : Fin 64) (e : Fin 16) :
    scatter_S2x4x300x64x16_S2x4x300x25x4_S2x4x300x25x16_4_0123_0123_4.resultIdx? (ix5 b' h' s' u e') idx = some (ix5 b h s i e)
      ↔ (idx (ix5 b' h' s' u 0)).toInt = (b : ℕ) ∧ (idx (ix5 b' h' s' u 1)).toInt = (h : ℕ) ∧ (idx (ix5 b' h' s' u 2)).toInt = (s : ℕ)
        ∧ (idx (ix5 b' h' s' u 3)).toInt = (i : ℕ) ∧ e' = e := by
  rw [resultIdx?_eq_some]
  have hs : ∀ c : Fin 4, scatter_S2x4x300x64x16_S2x4x300x25x4_S2x4x300x25x16_4_0123_0123_4.siIdx (ix5 b' h' s' u e') c = ix5 b' h' s' u c := fun c => by
    funext q
    match q with
    | ⟨0, _⟩ => rfl
    | ⟨1, _⟩ => rfl
    | ⟨2, _⟩ => rfl
    | ⟨3, _⟩ => rfl
    | ⟨4, _⟩ => rfl
  have k0 : scatter_S2x4x300x64x16_S2x4x300x25x4_S2x4x300x25x16_4_0123_0123_4.start (ix5 b' h' s' u e') idx 0 = (idx (ix5 b' h' s' u 0)).toInt := by rw [← hs 0]; rfl
  have k1 : scatter_S2x4x300x64x16_S2x4x300x25x4_S2x4x300x25x16_4_0123_0123_4.start (ix5 b' h' s' u e') idx 1 = (idx (ix5 b' h' s' u 1)).toInt := by rw [← hs 1]; rfl
  have k2 : scatter_S2x4x300x64x16_S2x4x300x25x4_S2x4x300x25x16_4_0123_0123_4.start (ix5 b' h' s' u e') idx 2 = (idx (ix5 b' h' s' u 2)).toInt := by rw [← hs 2]; rfl
  have k3 : scatter_S2x4x300x64x16_S2x4x300x25x4_S2x4x300x25x16_4_0123_0123_4.start (ix5 b' h' s' u e') idx 3 = (idx (ix5 b' h' s' u 3)).toInt := by rw [← hs 3]; rfl
  have k4 : scatter_S2x4x300x64x16_S2x4x300x25x4_S2x4x300x25x16_4_0123_0123_4.start (ix5 b' h' s' u e') idx 4 = 0 := rfl
  have w0 : scatter_S2x4x300x64x16_S2x4x300x25x4_S2x4x300x25x16_4_0123_0123_4.window (ix5 b' h' s' u e') 0 = 0 := rfl
  have w1 : scatter_S2x4x300x64x16_S2x4x300x25x4_S2x4x300x25x16_4_0123_0123_4.window (ix5 b' h' s' u e') 1 = 0 := rfl
  have w2 : scatter_S2x4x300x64x16_S2x4x300x25x4_S2x4x300x25x16_4_0123_0123_4.window (ix5 b' h' s' u e') 2 = 0 := rfl
  have w3 : scatter_S2x4x300x64x16_S2x4x300x25x4_S2x4x300x25x16_4_0123_0123_4.window (ix5 b' h' s' u e') 3 = 0 := rfl
  have w4 : scatter_S2x4x300x64x16_S2x4x300x25x4_S2x4x300x25x16_4_0123_0123_4.window (ix5 b' h' s' u e') 4 = e' := rfl
  constructor
  · intro H
    have H0 := H 0; have H1 := H 1; have H2 := H 2; have H3 := H 3; have H4 := H 4
    rw [k0, w0] at H0; rw [k1, w1] at H1; rw [k2, w2] at H2; rw [k3, w3] at H3; rw [k4, w4] at H4
    change _ = ((b : ℕ) : ℤ) at H0
    change _ = ((h : ℕ) : ℤ) at H1
    change _ = ((s : ℕ) : ℤ) at H2
    change _ = ((i : ℕ) : ℤ) at H3
    change _ = ((e : ℕ) : ℤ) at H4
    exact ⟨by omega, by omega, by omega, by omega, Fin.ext (by omega)⟩
  · rintro ⟨H0, H1, H2, H3, rfl⟩ a
    match a with
    | ⟨0, _⟩ => exact (congrArg₂ (fun (x : ℤ) (y : ℕ) => x + (y : ℤ)) k0 w0).trans ((Int.add_zero _).trans H0)
    | ⟨1, _⟩ => exact (congrArg₂ (fun (x : ℤ) (y : ℕ) => x + (y : ℤ)) k1 w1).trans ((Int.add_zero _).trans H1)
    | ⟨2, _⟩ => exact (congrArg₂ (fun (x : ℤ) (y : ℕ) => x + (y : ℤ)) k2 w2).trans ((Int.add_zero _).trans H2)
    | ⟨3, _⟩ => exact (congrArg₂ (fun (x : ℤ) (y : ℕ) => x + (y : ℤ)) k3 w3).trans ((Int.add_zero _).trans H3)
    | ⟨4, _⟩ => exact (congrArg₂ (fun (x : ℤ) (y : ℕ) => x + (y : ℤ)) k4 w4).trans (Int.zero_add _)

end Cert.Gathers

end
-- ==== Proof.TopK.lean ====
/- The 25 best of 64: a stable sort's first positions are the rows that fewer than 25 others stand before. -/
module

public import proofs.«01_k».proof.Proof.Spec
public import proofs.«01_k».proof.ReferenceIdeal
public import Idealize.ShloMosaic.Lib.SortPrefix

@[expose] public section

noncomputable section

open Idealize.ShloMosaic Cert.Slab

namespace Cert.TopK

/-- Sorting by a key alone, where the list stands in the order of position, sorts by the key and then by the position. -/
theorem sort_ties (R R' : Fin 64 → Fin 64 → Bool) (l : List (Fin 64)) (hl : l.Pairwise (· < ·)) (h : ∀ a b, a < b → R b a = R' b a) :
    stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sorted_eq {n : ℕ} (R R' : Fin n → Fin n → Bool) (h : sortPositions n R = sortPositions n R') : sortedFrom R = sortedFrom R' := by
  funext k
  unfold sortedFrom
  rw [List.get_of_eq h]
  rfl

variable (m : Fin 64 → EReal)

/-- Greater first. -/
def gt (k k' : Fin 64) : Bool := FloatOps.cmpfTotal (F := Ideal) (φ := .f32) .gt (m k) (m k') == 1#1

/-- Greater first, then the lower position. -/
def before (k k' : Fin 64) : Bool := decide (m k' < m k) || (decide (m k = m k') && decide (k < k'))

theorem gt_eq (k k' : Fin 64) : gt m k k' = decide (m k' < m k) := by
  unfold gt
  rw [Ideal.cmpfTotal_def]
  show (BitVec.ofBool (decide (m k' < m k)) == 1#1) = _
  by_cases h : m k' < m k <;> simp [h]

theorem total : StrictTotalBefore (before m) :=
  StrictTotalBefore.of_key_then_position (fun a b : EReal => decide (b < a)) m (fun a => by simp)
    (fun a b c h h' => by simp only [decide_eq_true_eq] at h h' ⊢; exact lt_trans h' h)
    (fun a b => by
      simp only [decide_eq_true_eq]
      rcases lt_trichotomy a b with h | h | h
      · exact Or.inr (Or.inr h)
      · exact Or.inr (Or.inl h)
      · exact Or.inl h)

theorem sort_eq : sortedFrom (gt m) = sortedFrom (before m) := by
  have h : sortPositions 64 (gt m) = sortPositions 64 (before m) := by
    refine sort_ties _ _ _ (List.pairwise_lt_finRange 64) fun a b hab => ?_
    rw [gt_eq]
    unfold before
    simp [not_lt.2 (le_of_lt hab)]
  exact sorted_eq _ _ h

attribute [local irreducible] sortedFrom

/-- The row at place `k`. -/
def place (k : Fin 64) : Fin 64 := sortedFrom (before m) k

theorem place_inj : Function.Injective (place m) := sortedFrom_injective _

theorem place_surj : Function.Surjective (place m) := sortedFrom_surjective _

theorem before_place (j k : Fin 64) : before m (place m j) (place m k) = true ↔ j < k := by
  have hno : ∀ i j : Fin 64, i < j → before m (place m j) (place m i) = false := fun i j hij =>
    sortedFrom_noInversion (before m) (before m) (fun a b h => (total m).asymm a b h) (fun _ _ h => h) (total m).negTrans i j hij
  constructor
  · intro h
    rcases lt_trichotomy j k with hlt | rfl | hgt
    · exact hlt
    · rw [(total m).irrefl] at h; exact absurd h (by decide)
    · rw [hno k j hgt] at h; exact absurd h (by decide)
  · intro h
    rcases (total m).total (place m j) (place m k) (fun e => absurd (place_inj m e) (ne_of_lt h)) with h' | h'
    · exact h'
    · rw [hno j k h] at h'; exact absurd h' (by decide)

/-- The row at place `k` has `k` rows before it. -/
theorem rank_place (k : Fin 64) : rank m (place m k) = k := by
  unfold rank
  have h : (Finset.univ.filter fun j : Fin 64 => m (place m k) < m j ∨ (m j = m (place m k) ∧ j < place m k))
      = (Finset.univ.filter fun j : Fin 64 => j < k).map ⟨place m, place_inj m⟩ := by
    ext j
    obtain ⟨j, rfl⟩ := place_surj m j
    have hb : (m (place m k) < m (place m j) ∨ (m (place m j) = m (place m k) ∧ place m j < place m k)) ↔ j < k := by
      rw [← before_place m j k]
      unfold before
      simp only [Bool.or_eq_true, Bool.and_eq_true, decide_eq_true_eq]
    simp only [Finset.mem_filter, Finset.mem_univ, true_and, Finset.mem_map, Function.Embedding.coeFn_mk]
    rw [hb]
    constructor
    · exact fun h => ⟨j, h, rfl⟩
    · rintro ⟨i, hi, e⟩
      rw [← place_inj m e]; exact hi
  rw [h, Finset.card_map]
  have hI : (Finset.univ.filter fun j : Fin 64 => j < k) = Finset.Iio k := by
    ext j
    simp
  rw [hI, Fin.card_Iio]

/-- The `u`-th best row. -/
def top (u : Fin 25) : Fin 64 := place m (u.castLE (by decide))

theorem top_inj : Function.Injective (top m) := fun u u' h => Fin.castLE_injective _ (place_inj m h)

theorem top_rank (u : Fin 25) : rank m (top m u) < 25 := by
  rw [top, rank_place]
  exact u.isLt

theorem exists_top (i : Fin 64) (h : rank m i < 25) : ∃ u, top m u = i := by
  obtain ⟨k, rfl⟩ := place_surj m i
  rw [rank_place] at h
  exact ⟨⟨k, h⟩, rfl⟩

open Cert.ReferenceIdeal

/-- The indices of the 25 greatest along the last axis. -/
theorem idx_at (x : S2x4x300x64.Idx → EReal) (hs : S2x4x300x64.Slices (fun _ => 0) S2x4x300x25) (b : Fin 2) (h : Fin 4) (s : Fin 300) (u : Fin 25) :
    (Host.topK S2x4x300x25 3 (FloatOps.cmpfTotal (F := Ideal) (φ := .f32) .gt) x hs).2 (ix4 b h s u)
      = BitVec.ofNat 32 (top (fun i => x (ix4 b h s i)) u) := by
  have e : ∀ k : Fin 64, Shape.Idx.along (s := S2x4x300x64) (ix4 b h s (u.castLE (by decide))) 3 k = ix4 b h s k := fun k => by
    funext q
    match q with
    | ⟨0, _⟩ => rfl
    | ⟨1, _⟩ => rfl
    | ⟨2, _⟩ => rfl
    | ⟨3, _⟩ => rfl
  unfold top place
  rw [← sort_eq]
  have hi : (extractStridedSlice S2x4x300x25 (fun _ => 0) (fun j : S2x4x300x64.Idx => j) hs (ix4 b h s u)) = ix4 b h s (u.castLE (by decide)) := by
    funext q
    match q with
    | ⟨0, _⟩ => exact Fin.ext (Nat.zero_add _)
    | ⟨1, _⟩ => exact Fin.ext (Nat.zero_add _)
    | ⟨2, _⟩ => exact Fin.ext (Nat.zero_add _)
    | ⟨3, _⟩ => exact Fin.ext (Nat.zero_add _)
  show BitVec.ofNat 32 ((Shape.Idx.along (extractStridedSlice S2x4x300x25 (fun _ => 0) (fun j : S2x4x300x64.Idx => j) hs (ix4 b h s u)) 3
    (sortedFrom (fun k k' => FloatOps.cmpfTotal (F := Ideal) (φ := .f32) .gt (x (Shape.Idx.along (extractStridedSlice S2x4x300x25 (fun _ => 0) (fun j : S2x4x300x64.Idx => j) hs (ix4 b h s u)) 3 k))
      (x (Shape.Idx.along (extractStridedSlice S2x4x300x25 (fun _ => 0) (fun j : S2x4x300x64.Idx => j) hs (ix4 b h s u)) 3 k')) == 1#1)
      (extractStridedSlice S2x4x300x25 (fun _ => 0) (fun j : S2x4x300x64.Idx => j) hs (ix4 b h s u) 3)) 3 : Fin 64) : ℕ) = _
  rw [hi]
  generalize (u.castLE (by decide) : Fin 64) = v at e
  have hc : (fun k k' => FloatOps.cmpfTotal (F := Ideal) (φ := .f32) .gt (x (Shape.Idx.along (s := S2x4x300x64) (ix4 b h s v) 3 k))
      (x (Shape.Idx.along (s := S2x4x300x64) (ix4 b h s v) 3 k')) == 1#1) = gt fun i => x (ix4 b h s i) :=
    funext fun k => funext fun k' => congrArg₂ (fun a c : EReal => FloatOps.cmpfTotal (F := Ideal) (φ := .f32) .gt a c == 1#1) (congrArg x (e k)) (congrArg x (e k'))
  refine (congrArg (fun R => BitVec.ofNat 32 ((Shape.Idx.along (s := S2x4x300x64) (ix4 b h s v) 3 (sortedFrom R v) 3 : Fin 64) : ℕ)) hc).trans ?_
  exact congrArg (fun z : Fin 64 => BitVec.ofNat 32 (z : ℕ)) (congrFun (e _) 3)

end Cert.TopK

end
-- ==== Proof.RefEnc.lean ====
/- The reference's first half: the encoded slabs, the queries, keys and values, the sampled scores, and the 25 rows. -/
module

public import proofs.«01_k».proof.Proof.Gen.ReferenceIdeal.Run
public import proofs.«01_k».proof.Proof.Gathers
public import proofs.«01_k».proof.Proof.TopK
public import proofs.«01_k».proof.Proof.Lits
public import proofs.«01_k».proof.Proof.Data

@[expose] public section

noncomputable section

open Idealize.ShloMosaic Idealize.ShloMosaic.Routing Cert.Slab Cert.ReferenceIdeal Cert.ReferenceIdeal.Gen Cert.ReferenceIdeal.Value

namespace Cert.Ref

variable (V : Valuation τ sig (Elt Ideal)) (n : Fin 2 → Fin 64 → Fin 5 → Fin 10)

/-- The reference's arguments by coordinates. -/
def args : Args where
  x b s t k := V (Proc.devRef .tc main_arg0) (ix4 b s t k)
  n := n
  W := {
    q := fun r k => V (Proc.devRef .tc main_arg2) (ix2 r k)
    k := fun r k => V (Proc.devRef .tc main_arg3) (ix2 r k)
    v := fun r k => V (Proc.devRef .tc main_arg4) (ix2 r k)
    o := fun r k => V (Proc.devRef .tc main_arg5) (ix2 r k)
    bo := fun k => V (Proc.devRef .tc main_arg6) (ix1 k)
    g1 := fun k => V (Proc.devRef .tc main_arg7) (ix1 k)
    h1 := fun k => V (Proc.devRef .tc main_arg8) (ix1 k)
    g2 := fun k => V (Proc.devRef .tc main_arg9) (ix1 k)
    h2 := fun k => V (Proc.devRef .tc main_arg10) (ix1 k)
    w1 := fun r k => V (Proc.devRef .tc main_arg11) (ix2 r k)
    b1 := fun k => V (Proc.devRef .tc main_arg12) (ix1 k)
    w2 := fun r k => V (Proc.devRef .tc main_arg13) (ix2 r k)
    b2 := fun k => V (Proc.devRef .tc main_arg14) (ix1 k) }
  T1 r k := V (Proc.devRef .tc main_arg15) (ix2 r k)
  T2 r k := V (Proc.devRef .tc main_arg16) (ix2 r k)
  T3 r k := V (Proc.devRef .tc main_arg17) (ix2 r k)
  T4 r k := V (Proc.devRef .tc main_arg18) (ix2 r k)
  T5 r k := V (Proc.devRef .tc main_arg19) (ix2 r k)

/-- A row number that is not negative stays itself. -/
theorem wrap (w K : BitVec 32) (r : ℕ) (hr : r < 2 ^ 31) (h : w = BitVec.ofNat 32 r) :
    Scalar.select (IntOp.cmpi .slt w 0#32) (IntOp.addi w K) w = BitVec.ofNat 32 r := by
  rw [wrap_of_lt w _ (by rw [h, BitVec.toNat_ofNat]; omega), h]

theorem col (y : S2x64.Idx → BitVec 32) (K : BitVec 32) (b : Fin 2) (t : Fin 64) (r : ℕ) (hr : r < 2 ^ 31) (h : y (ix2 b t) = BitVec.ofNat 32 r) :
    (broadcastInDim S2x64x1 ![0, 1] bcast_S2x64_S2x64x1_0_1 (select (cmpi .slt y (broadcastInDim S2x64 ![] bcast_S_S2x64 (constantI S_ 32 0#32)))
      (addi y (broadcastInDim S2x64 ![] bcast_S_S2x64 (constantI S_ 32 K))) y)) (ix3 b t 0) = BitVec.ofNat 32 r := by
  pointwise
  exact wrap _ _ r hr h

theorem col0 (b : Fin 2) (t : Fin 64) : res_main_v1 V (ix2 b t) = V (Proc.devRef .tc main_arg1) (ix3 b t 0) := by
  pointwise [res_main_v1]
theorem col1 (b : Fin 2) (t : Fin 64) : res_main_v10 V (ix2 b t) = V (Proc.devRef .tc main_arg1) (ix3 b t 1) := by
  pointwise [res_main_v10]
theorem col2 (b : Fin 2) (t : Fin 64) : res_main_v20 V (ix2 b t) = V (Proc.devRef .tc main_arg1) (ix3 b t 2) := by
  pointwise [res_main_v20]
theorem col3 (b : Fin 2) (t : Fin 64) : res_main_v30 V (ix2 b t) = V (Proc.devRef .tc main_arg1) (ix3 b t 3) := by
  pointwise [res_main_v30]
theorem col4 (b : Fin 2) (t : Fin 64) : res_main_v40 V (ix2 b t) = V (Proc.devRef .tc main_arg1) (ix3 b t 4) := by
  pointwise [res_main_v40]

theorem pe_at (t k : Fin 64) : (FloatOps.ofBits (F := Ideal) .f32 (Cert.ReferenceIdeal.lit0 (S64x64.rowMajor (ix2 t k))) : EReal) = pe t k :=
  congrArg (Ideal.ofBits .f32) (lit_pe _)

variable (hn : ∀ b t e, V (Proc.devRef .tc main_arg1) (ix3 b t e) = BitVec.ofNat 32 (n b t e))
include hn

omit hn

/-- A batch, plus a matrix for every slab of it, plus a matrix for each batch. -/
theorem add_at (X : FVec Ideal S2x300x64x64 .f32) (P : FVec Ideal S64x64 .f32) (T : FVec Ideal S2x64x64 .f32) (b : Fin 2) (s : Fin 300) (t k : Fin 64) :
    (addf (addf X (broadcastInDim S2x300x64x64 ![0, 1, 2, 3] bcast_S1x1x64x64_S2x300x64x64_0_1_2_3 (broadcastInDim S1x1x64x64 ![2, 3] bcast_S64x64_S1x1x64x64_2_3 P)))
      (broadcastInDim S2x300x64x64 ![0, 1, 2, 3] bcast_S2x1x64x64_S2x300x64x64_0_1_2_3 (broadcastInDim S2x1x64x64 ![0, 2, 3] bcast_S2x64x64_S2x1x64x64_0_2_3 T))) (ix4 b s t k)
      = (X (ix4 b s t k) : EReal) + P (ix2 t k) + T (ix3 b t k) := by
  pointwise

theorem sum_at (A B C D E : FVec Ideal S2x64x64 .f32) (i : S2x64x64.Idx) :
    (addf (addf (addf (addf A B) C) D) E) i = (A i : EReal) + B i + C i + D i + E i := rfl

theorem six {a p c d e f g p' c' d' e' f' g' : EReal} (h0 : p = p') (h1 : c = c') (h2 : d = d') (h3 : e = e') (h4 : f = f') (h5 : g = g') :
    a + p + (c + d + e + f + g) = a + p' + (c' + d' + e' + f' + g') := by rw [h0, h1, h2, h3, h4, h5]

include hn

theorem take0 (b : Fin 2) (t k : Fin 64) : Host.gather gather_S70x64_S2x64x1_S2x64x64_2_0_n_n_0_2_164 (V (Proc.devRef .tc main_arg15))
      (broadcastInDim S2x64x1 ![0, 1] bcast_S2x64_S2x64x1_0_1 (select (cmpi .slt (res_main_v1 V) (broadcastInDim S2x64 ![] bcast_S_S2x64 (constantI S_ 32 0#32)))
        (addi (res_main_v1 V) (broadcastInDim S2x64 ![] bcast_S_S2x64 (constantI S_ 32 70#32))) (res_main_v1 V))) (ix3 b t k)
      = V (Proc.devRef .tc main_arg15) (ix2 ⟨n b t 0, by omega⟩ k) :=
  Cert.Gathers.table gather_S70x64_S2x64x1_S2x64x64_2_0_n_n_0_2_164_wf _ rfl _ _ b t k ⟨n b t 0, by omega⟩ (by decide)
    (col (res_main_v1 V) 70#32 b t (n b t 0) (by omega) ((col0 V b t).trans (hn b t 0)))

theorem take1 (b : Fin 2) (t k : Fin 64) : Host.gather gather_S30x64_S2x64x1_S2x64x64_2_0_n_n_0_2_164 (V (Proc.devRef .tc main_arg16))
      (broadcastInDim S2x64x1 ![0, 1] bcast_S2x64_S2x64x1_0_1 (select (cmpi .slt (res_main_v10 V) (broadcastInDim S2x64 ![] bcast_S_S2x64 (constantI S_ 32 0#32)))
        (addi (res_main_v10 V) (broadcastInDim S2x64 ![] bcast_S_S2x64 (constantI S_ 32 30#32))) (res_main_v10 V))) (ix3 b t k)
      = V (Proc.devRef .tc main_arg16) (ix2 ⟨n b t 1, by omega⟩ k) :=
  Cert.Gathers.table gather_S30x64_S2x64x1_S2x64x64_2_0_n_n_0_2_164_wf _ rfl _ _ b t k ⟨n b t 1, by omega⟩ (by decide)
    (col (res_main_v10 V) 30#32 b t (n b t 1) (by omega) ((col1 V b t).trans (hn b t 1)))

theorem take2 (b : Fin 2) (t k : Fin 64) : Host.gather gather_S10x64_S2x64x1_S2x64x64_2_0_n_n_0_2_164 (V (Proc.devRef .tc main_arg17))
      (broadcastInDim S2x64x1 ![0, 1] bcast_S2x64_S2x64x1_0_1 (select (cmpi .slt (res_main_v20 V) (broadcastInDim S2x64 ![] bcast_S_S2x64 (constantI S_ 32 0#32)))
        (addi (res_main_v20 V) (broadcastInDim S2x64 ![] bcast_S_S2x64 (constantI S_ 32 10#32))) (res_main_v20 V))) (ix3 b t k)
      = V (Proc.devRef .tc main_arg17) (ix2 ⟨n b t 2, by omega⟩ k) :=
  Cert.Gathers.table gather_S10x64_S2x64x1_S2x64x64_2_0_n_n_0_2_164_wf _ rfl _ _ b t k ⟨n b t 2, by omega⟩ (by decide)
    (col (res_main_v20 V) 10#32 b t (n b t 2) (by omega) ((col2 V b t).trans (hn b t 2)))

theorem take3 (b : Fin 2) (t k : Fin 64) : Host.gather gather_S40x64_S2x64x1_S2x64x64_2_0_n_n_0_2_164 (V (Proc.devRef .tc main_arg18))
      (broadcastInDim S2x64x1 ![0, 1] bcast_S2x64_S2x64x1_0_1 (select (cmpi .slt (res_main_v30 V) (broadcastInDim S2x64 ![] bcast_S_S2x64 (constantI S_ 32 0#32)))
        (addi (res_main_v30 V) (broadcastInDim S2x64 ![] bcast_S_S2x64 (constantI S_ 32 40#32))) (res_main_v30 V))) (ix3 b t k)
      = V (Proc.devRef .tc main_arg18) (ix2 ⟨n b t 3, by omega⟩ k) :=
  Cert.Gathers.table gather_S40x64_S2x64x1_S2x64x64_2_0_n_n_0_2_164_wf _ rfl _ _ b t k ⟨n b t 3, by omega⟩ (by decide)
    (col (res_main_v30 V) 40#32 b t (n b t 3) (by omega) ((col3 V b t).trans (hn b t 3)))

theorem take4 (b : Fin 2) (t k : Fin 64) : Host.gather gather_S400x64_S2x64x1_S2x64x64_2_0_n_n_0_2_164 (V (Proc.devRef .tc main_arg19))
      (broadcastInDim S2x64x1 ![0, 1] bcast_S2x64_S2x64x1_0_1 (select (cmpi .slt (res_main_v40 V) (broadcastInDim S2x64 ![] bcast_S_S2x64 (constantI S_ 32 0#32)))
        (addi (res_main_v40 V) (broadcastInDim S2x64 ![] bcast_S_S2x64 (constantI S_ 32 400#32))) (res_main_v40 V))) (ix3 b t k)
      = V (Proc.devRef .tc main_arg19) (ix2 ⟨n b t 4, by omega⟩ k) :=
  Cert.Gathers.table gather_S400x64_S2x64x1_S2x64x64_2_0_n_n_0_2_164_wf _ rfl _ _ b t k ⟨n b t 4, by omega⟩ (by decide)
    (col (res_main_v40 V) 400#32 b t (n b t 4) (by omega) ((col4 V b t).trans (hn b t 4)))

theorem enc_at (b : Fin 2) (s : Fin 300) (t k : Fin 64) : res_main_v54 V (ix4 b s t k) = (args V n).enc b s t k := by
  unfold res_main_v54
  refine (add_at _ _ _ b s t k).trans ?_
  rw [sum_at]
  exact six (pe_at t k) (take0 V n hn b t k) (take1 V n hn b t k) (take2 V n hn b t k) (take3 V n hn b t k) (take4 V n hn b t k)

end Cert.Ref

end
-- ==== Proof.RefScores.lean ====
/- The reference's first half: the encoded slabs, the queries, keys and values, the sampled scores, and the 25 rows. -/
module

public import proofs.«01_k».proof.Proof.RefEnc
public import proofs.«01_k».proof.Proof.TopK
public import proofs.«01_k».proof.Proof.Lits
public import proofs.«01_k».proof.Proof.Data

@[expose] public section

noncomputable section

open Idealize.ShloMosaic Idealize.ShloMosaic.Routing Cert.Slab Cert.ReferenceIdeal Cert.ReferenceIdeal.Gen Cert.ReferenceIdeal.Value

namespace Cert.Ref

variable (V : Valuation τ sig (Elt Ideal)) (n : Fin 2 → Fin 64 → Fin 5 → Fin 10)

variable (hn : ∀ b t e, V (Proc.devRef .tc main_arg1) (ix3 b t e) = BitVec.ofNat 32 (n b t e))

/-- Rows times a transposed matrix, split in heads. -/
theorem heads_at (E : S2x300x64x64.Idx → EReal) (W : S64x64.Idx → EReal) (b : Fin 2) (h : Fin 4) (s : Fin 300) (t : Fin 64) (e : Fin 16) :
    (transpose S2x4x300x64x16 [0, 3, 1, 2, 4] (shapeCast S2x300x64x4x16 (Host.dotGeneral (F := Ideal) (φ₁ := .f32) (φ₂ := .f32) dot_S2x300x64x64_S64x64_S2x300x64x64_3_0_012_1_n_n none E
      (transpose S64x64 [1, 0] W transposes_S64x64_S64x64_1_0)) shapeCasts_S2x300x64x64_S2x300x64x4x16) transposes_S2x300x64x4x16_S2x4x300x64x16_0_3_1_2_4) (ix5 b h s t e)
      = proj (fun r k => W (ix2 r k)) (fun t k => E (ix4 b s t k)) t (lane h e) := by
  pointwise
  rfl

include hn

theorem q_at (b : Fin 2) (h : Fin 4) (s : Fin 300) (t : Fin 64) (e : Fin 16) :
    res_main_v58 V (ix5 b h s t e) = proj (args V n).W.q ((args V n).enc b s) t (lane h e) :=
  (heads_at (res_main_v54 V) _ b h s t e).trans
    (congrArg (fun E => proj (args V n).W.q E t (lane h e)) (funext fun t => funext fun k => enc_at V n hn b s t k))

theorem k_at (b : Fin 2) (h : Fin 4) (s : Fin 300) (t : Fin 64) (e : Fin 16) :
    res_main_v62 V (ix5 b h s t e) = proj (args V n).W.k ((args V n).enc b s) t (lane h e) :=
  (heads_at (res_main_v54 V) _ b h s t e).trans
    (congrArg (fun E => proj (args V n).W.k E t (lane h e)) (funext fun t => funext fun k => enc_at V n hn b s t k))

theorem v_at (b : Fin 2) (h : Fin 4) (s : Fin 300) (t : Fin 64) (e : Fin 16) :
    res_main_v66 V (ix5 b h s t e) = proj (args V n).W.v ((args V n).enc b s) t (lane h e) :=
  (heads_at (res_main_v54 V) _ b h s t e).trans
    (congrArg (fun E => proj (args V n).W.v E t (lane h e)) (funext fun t => funext fun k => enc_at V n hn b s t k))

omit hn

theorem sampled (Q K : S2x4x300x64x16.Idx → EReal) (idx : IVec S64x25x1 32) (hi : ∀ i u, idx (ix3 i u 0) = BitVec.ofNat 32 (ix i u))
    (b : Fin 2) (h : Fin 4) (s : Fin 300) (i : Fin 64) (u : Fin 25) :
    Host.dotGeneral (F := Ideal) (φ₁ := .f32) (φ₂ := .f32) dot_S2x4x300x64x16_S2x4x300x64x25x16_S2x4x300x64x25_4_5_n_4_0123_0123 none Q
      (Host.gather gather_S2x4x300x64x16_S64x25x1_S2x4x300x64x25x16_0125_3_n_n_3_2_24300116 K idx) (ix5 b h s i u)
      = ∑ e : Fin 16, Q (ix5 b h s i e) * K (ix5 b h s (ix i u) e) := by
  have g : ∀ e, Host.gather gather_S2x4x300x64x16_S64x25x1_S2x4x300x64x25x16_0125_3_n_n_3_2_24300116 K idx (ix6 b h s i u e) = K (ix5 b h s (ix i u) e) := fun e =>
    Cert.Gathers.rows K idx b h s i u e (ix i u) (hi i u)
  generalize Host.gather gather_S2x4x300x64x16_S64x25x1_S2x4x300x64x25x16_0125_3_n_n_3_2_24300116 K idx = G at g
  simp only [← g]
  pointwise

theorem idx_at (i : Fin 64) (u : Fin 25) :
    (broadcastInDim S64x25x1 ![0, 1] bcast_S64x25_S64x25x1_0_1 (select (cmpi .slt (res_main_c V) (broadcastInDim S64x25 ![] bcast_S_S64x25 (constantI S_ 32 0#32)))
      (addi (res_main_c V) (broadcastInDim S64x25 ![] bcast_S_S64x25 (constantI S_ 32 64#32))) (res_main_c V))) (ix3 i u 0) = BitVec.ofNat 32 (ix i u) := by
  have hc : res_main_c V (ix2 i u) = BitVec.ofNat 32 (ix i u) := (Cert.Slab.lit_ix _).trans (lit_ix_eq i u)
  generalize res_main_c V = y at hc
  pointwise
  exact wrap _ _ _ (by have := (ix i u).isLt; omega) hc

include hn

theorem score_at (b : Fin 2) (h : Fin 4) (s : Fin 300) (i : Fin 64) (u : Fin 25) :
    res_main_v74 V (ix5 b h s i u) = score (proj (args V n).W.q ((args V n).enc b s)) (proj (args V n).W.k ((args V n).enc b s)) h i (ix i u) := by
  refine (sampled (res_main_v58 V) (res_main_v62 V) _ (idx_at V) b h s i u).trans ?_
  exact Finset.sum_congr rfl fun e _ => congrArg₂ (fun a b : EReal => a * b) (q_at V n hn b h s i e) (k_at V n hn b h s _ e)

omit hn

theorem greatest (S : FVec Ideal S2x4x300x64x25 .f32) (b : Fin 2) (h : Fin 4) (s : Fin 300) (i : Fin 64) :
    (Host.reduce (FloatOps.maximumf (F := Ideal) (φ := .f32)) S (constant S_ .f32 0xFF800000#32) reducesTo_S2x4x300x64x25_S2x4x300x64_d4 h_S_) (ix4 b h s i)
      = Finset.univ.fold max (Ideal.ofBits .f32 4286578688#32) (fun u : Fin 25 => (S (ix5 b h s i u) : EReal)) := by
  pointwise

theorem total (S : FVec Ideal S2x4x300x64x25 .f32) (b : Fin 2) (h : Fin 4) (s : Fin 300) (i : Fin 64) :
    (Host.reduceAdd S (constant S_ .f32 0x00000000#32) reducesTo_S2x4x300x64x25_S2x4x300x64_d4 h_S_) (ix4 b h s i)
      = (∑ u : Fin 25, S (ix5 b h s i u) : EReal) := by
  pointwise

theorem ninf : Ideal.ofBits .f32 4286578688#32 = ⊥ := by simp [Ideal.ofBits, Ideal.ieee]

theorem above_mean (A B : FVec Ideal S2x4x300x64 .f32) (j : S2x4x300x64.Idx) :
    (subf A (Host.divf B (broadcastInDim S2x4x300x64 ![] bcast_S_S2x4x300x64 (constant S_ .f32 0x41C80000#32)))) j = (A j : EReal) - Ideal.div (B j) k25 := rfl

include hn

theorem meas_at (b : Fin 2) (h : Fin 4) (s : Fin 300) (i : Fin 64) :
    res_main_v79 V (ix4 b h s i) = meas ix (proj (args V n).W.q ((args V n).enc b s)) (proj (args V n).W.k ((args V n).enc b s)) h i := by
  have e : (fun u : Fin 25 => res_main_v74 V (ix5 b h s i u)) = fun u => score (proj (args V n).W.q ((args V n).enc b s)) (proj (args V n).W.k ((args V n).enc b s)) h i (ix i u) :=
    funext fun u => score_at V n hn b h s i u
  unfold res_main_v79
  refine (above_mean _ _ _).trans ?_
  rw [greatest, total, ninf]
  exact congrArg (fun S : Fin 25 → EReal => Finset.univ.fold max ⊥ S - Ideal.div (∑ u : Fin 25, S u) k25) e

/-- The rows the reference keeps in one head of one slab. -/
abbrev best (b : Fin 2) (h : Fin 4) (s : Fin 300) : Fin 25 → Fin 64 :=
  TopK.top (meas ix (proj (args V n).W.q ((args V n).enc b s)) (proj (args V n).W.k ((args V n).enc b s)) h)

theorem best_at (b : Fin 2) (h : Fin 4) (s : Fin 300) (u : Fin 25) : res_main_indices V (ix4 b h s u) = BitVec.ofNat 32 (best V n b h s u) := by
  refine (TopK.idx_at (res_main_v79 V) _ b h s u).trans ?_
  exact congrArg (fun m => BitVec.ofNat 32 (TopK.top m u : ℕ)) (funext fun i => meas_at V n hn b h s i)

end Cert.Ref

end
-- ==== Proof.RefOps.lean ====
/- The reference's attention, one operation at a time, on any arrays. -/
module

public import proofs.«01_k».proof.Proof.RefEnc
public import Idealize.ShloMosaic.Lib.ReduceAll

@[expose] public section

noncomputable section

open Idealize.ShloMosaic Idealize.ShloMosaic.Routing Cert.Slab Cert.ReferenceIdeal Cert.ReferenceIdeal.Gen Cert.ReferenceIdeal.Value

namespace Cert.Ref

theorem row_at (z : IVec S2x4x300x25x1 32) (i : S2x4x300x25x1.Idx) (r : ℕ) (hr : r < 2 ^ 31) (hz : z i = BitVec.ofNat 32 r) :
    (select (cmpi .slt z (broadcastInDim S2x4x300x25x1 ![] bcast_S_S2x4x300x25x1 (constantI S_ 32 0#32)))
      (addi z (broadcastInDim S2x4x300x25x1 ![] bcast_S_S2x4x300x25x1 (constantI S_ 32 64#32))) z) i = BitVec.ofNat 32 r := wrap _ _ r hr hz

theorem between (w : BitVec 32) (r : Fin 64) (h : w = BitVec.ofNat 32 r) : IntOp.andi (IntOp.cmpi .sge w 0#32) (IntOp.cmpi .sle w 63#32) = 1#1 := by
  have k : ∀ r : Fin 64, IntOp.andi (IntOp.cmpi .sge (BitVec.ofNat 32 r) 0#32) (IntOp.cmpi .sle (BitVec.ofNat 32 r) 63#32) = 1#1 := by decide
  rw [h]
  exact k r

theorem chosen (M : IVec S2x4x300x25 1) (A B : FVec Ideal S2x4x300x25x16 .f32) (b : Fin 2) (h : Fin 4) (s : Fin 300) (u : Fin 25) (e : Fin 16) (hM : M (ix4 b h s u) = 1#1) :
    (select (broadcastInDim S2x4x300x25x16 ![0, 1, 2, 3] bcast_S2x4x300x25_S2x4x300x25x16_0_1_2_3 M) A B) (ix5 b h s u e) = A (ix5 b h s u e) := by
  pointwise
  rw [hM]
  rfl

/-- Rows picked at row numbers that are all rows: no row is out of range. -/
theorem picked (R : IVec S2x4x300x25x1 32) (r : Fin 2 → Fin 4 → Fin 300 → Fin 25 → Fin 64) (hR : ∀ b h s u, R (ix5 b h s u 0) = BitVec.ofNat 32 (r b h s u))
    (Q : FVec Ideal S2x4x300x64x16 .f32) (X : FVec Ideal S2x4x300x25x16 .f32) (b : Fin 2) (h : Fin 4) (s : Fin 300) (u : Fin 25) (e : Fin 16) :
    (select (broadcastInDim S2x4x300x25x16 ![0, 1, 2, 3] bcast_S2x4x300x25_S2x4x300x25x16_0_1_2_3 (Host.reduce IntOp.andi
      (andi (cmpi .sge R (broadcastInDim S2x4x300x25x1 ![] bcast_S_S2x4x300x25x1 (constantI S_ 32 0#32)))
        (cmpi .sle R (broadcastInDim S2x4x300x25x1 ![0, 1, 2, 3, 4] bcast_S1x1x1x1x1_S2x4x300x25x1_0_1_2_3_4 (broadcastInDim S1x1x1x1x1 ![4] bcast_S1_S1x1x1x1x1_4 (constantI S1 32 63#32)))))
      (constantI S_ 1 1#1) reducesTo_S2x4x300x25x1_S2x4x300x25_d4 h_S_))
      (Host.gather gather_S2x4x300x64x16_S2x4x300x25x1_S2x4x300x25x16_4_3_012_012_3_4_111116 Q R) X) (ix5 b h s u e) = Q (ix5 b h s (r b h s u) e) := by
  refine (chosen _ _ X b h s u e ?_).trans (Cert.Gathers.own Q R b h s u e _ (hR b h s u))
  refine Host.reduce_andi_one _ _ _ _ _ rfl fun i => ?_
  have e : i = ix5 (i 0) (i 1) (i 2) (i 3) 0 := (eq_ix5 i).trans (congrArg (ix5 (i 0) (i 1) (i 2) (i 3)) (Subsingleton.elim (α := Fin 1) _ _))
  exact between _ _ ((congrArg R e).trans (hR (i 0) (i 1) (i 2) (i 3)))

theorem scaled (A : FVec Ideal S2x4x300x25x16 .f32) (K : FVec Ideal S2x4x300x64x16 .f32) (b : Fin 2) (h : Fin 4) (s : Fin 300) (u : Fin 25) (j : Fin 64) :
    (mulf (Host.dotGeneral (F := Ideal) (φ₁ := .f32) (φ₂ := .f32) dot_S2x4x300x25x16_S2x4x300x64x16_S2x4x300x25x64_4_4_3_3_012_012 none A K)
      (broadcastInDim S2x4x300x25x64 ![] bcast_S_S2x4x300x25x64 (constant S_ .f32 0x3E800000#32))) (ix5 b h s u j)
      = (∑ e : Fin 16, A (ix5 b h s u e) * K (ix5 b h s j e) : EReal) * quarter := by
  pointwise
  rfl

theorem greatest64 (L : FVec Ideal S2x4x300x25x64 .f32) (b : Fin 2) (h : Fin 4) (s : Fin 300) (u : Fin 25) :
    (Host.reduce (FloatOps.maximumf (F := Ideal) (φ := .f32)) L (constant S_ .f32 0xFF800000#32) reducesTo_S2x4x300x25x64_S2x4x300x25_d4 h_S_) (ix4 b h s u)
      = Finset.univ.fold max (Ideal.ofBits .f32 4286578688#32) (fun j : Fin 64 => (L (ix5 b h s u j) : EReal)) := by
  pointwise

theorem total64 (L : FVec Ideal S2x4x300x25x64 .f32) (b : Fin 2) (h : Fin 4) (s : Fin 300) (u : Fin 25) :
    (Host.reduceAdd L (constant S_ .f32 0x00000000#32) reducesTo_S2x4x300x25x64_S2x4x300x25_d4 h_S_) (ix4 b h s u)
      = (∑ j : Fin 64, L (ix5 b h s u j) : EReal) := by
  pointwise

theorem shifted (L : FVec Ideal S2x4x300x25x64 .f32) (P : FVec Ideal S2x4x300x25 .f32) (b : Fin 2) (h : Fin 4) (s : Fin 300) (u : Fin 25) (j : Fin 64) :
    (Host.exp (subf L (broadcastInDim S2x4x300x25x64 ![0, 1, 2, 3, 4] bcast_S2x4x300x25x1_S2x4x300x25x64_0_1_2_3_4
      (broadcastInDim S2x4x300x25x1 ![0, 1, 2, 3] bcast_S2x4x300x25_S2x4x300x25x1_0_1_2_3
        (maximumf (broadcastInDim S2x4x300x25 ![] bcast_S_S2x4x300x25 (constant S_ .f32 0xFF800000#32)) P))))) (ix5 b h s u j)
      = Ideal.exp ((L (ix5 b h s u j) : EReal) - max (Ideal.ofBits .f32 4286578688#32) (P (ix4 b h s u))) := by
  pointwise

theorem weighed (E : FVec Ideal S2x4x300x25x64 .f32) (S : FVec Ideal S2x4x300x25 .f32) (b : Fin 2) (h : Fin 4) (s : Fin 300) (u : Fin 25) (j : Fin 64) :
    (Host.divf E (broadcastInDim S2x4x300x25x64 ![0, 1, 2, 3, 4] bcast_S2x4x300x25x1_S2x4x300x25x64_0_1_2_3_4
      (broadcastInDim S2x4x300x25x1 ![0, 1, 2, 3] bcast_S2x4x300x25_S2x4x300x25x1_0_1_2_3 S))) (ix5 b h s u j)
      = Ideal.div (E (ix5 b h s u j)) (S (ix4 b h s u)) := by
  pointwise

theorem blended (A : FVec Ideal S2x4x300x25x64 .f32) (X : FVec Ideal S2x4x300x64x16 .f32) (b : Fin 2) (h : Fin 4) (s : Fin 300) (u : Fin 25) (e : Fin 16) :
    (Host.dotGeneral (F := Ideal) (φ₁ := .f32) (φ₂ := .f32) dot_S2x4x300x25x64_S2x4x300x64x16_S2x4x300x25x16_4_3_3_4_012_012 none A X) (ix5 b h s u e)
      = (∑ j : Fin 64, A (ix5 b h s u j) * X (ix5 b h s j e) : EReal) := by
  pointwise

theorem totalRows (X : FVec Ideal S2x4x300x64x16 .f32) (b : Fin 2) (h : Fin 4) (s : Fin 300) (e : Fin 16) :
    (Host.reduceAdd X (constant S_ .f32 0x00000000#32) reducesTo_S2x4x300x64x16_S2x4x300x16_d3 h_S_) (ix4 b h s e)
      = (∑ j : Fin 64, X (ix5 b h s j e) : EReal) := by
  pointwise

theorem spread (X : FVec Ideal S2x4x300x16 .f32) (b : Fin 2) (h : Fin 4) (s : Fin 300) (i : Fin 64) (e : Fin 16) :
    (broadcastInDim S2x4x300x64x16 ![0, 1, 2, 3, 4] bcast_S2x4x300x1x16_S2x4x300x64x16_0_1_2_3_4 (Host.divf
      (broadcastInDim S2x4x300x1x16 ![0, 1, 2, 4] bcast_S2x4x300x16_S2x4x300x1x16_0_1_2_4 X)
      (broadcastInDim S2x4x300x1x16 ![] bcast_S_S2x4x300x1x16 (constant S_ .f32 0x42800000#32)))) (ix5 b h s i e)
      = Ideal.div (X (ix4 b h s e)) k64 := by
  pointwise
  rfl

/-- The heads put side by side, times a transposed matrix, with a bias and the slab added. -/
theorem projected (C : FVec Ideal S2x4x300x64x16 .f32) (W : FVec Ideal S64x64 .f32) (B : FVec Ideal S64 .f32) (E : FVec Ideal S2x300x64x64 .f32) (b : Fin 2) (s : Fin 300) (t c : Fin 64) :
    (addf (addf (Host.dotGeneral (F := Ideal) (φ₁ := .f32) (φ₂ := .f32) dot_S2x300x64x64_S64x64_S2x300x64x64_3_0_012_1_n_n none
      (shapeCast S2x300x64x64 (transpose S2x300x64x4x16 [0, 2, 3, 1, 4] C transposes_S2x4x300x64x16_S2x300x64x4x16_0_2_3_1_4) shapeCasts_S2x300x64x4x16_S2x300x64x64)
      (transpose S64x64 [1, 0] W transposes_S64x64_S64x64_1_0))
      (broadcastInDim S2x300x64x64 ![0, 1, 2, 3] bcast_S1x1x1x64_S2x300x64x64_0_1_2_3 (broadcastInDim S1x1x1x64 ![3] bcast_S64_S1x1x1x64_3 B))) E) (ix4 b s t c)
      = (∑ k : Fin 64, C (ix5 b (headOf k) s t ⟨(k : ℕ) % 16, Nat.mod_lt _ (by decide)⟩) * W (ix2 c k) : EReal) + B (ix1 c) + E (ix4 b s t c) := by
  pointwise
  rfl

end Cert.Ref

end
-- ==== Proof.RefScatter.lean ====
/- The reference's scatter: the index columns, and what an entry holds afterwards. -/
module

public import proofs.«01_k».proof.Proof.RefEnc
public import Idealize.ShloMosaic.Lib.Pipeline.Value

@[expose] public section

noncomputable section

open Idealize.ShloMosaic Idealize.ShloMosaic.Routing Cert.Slab Cert.ReferenceIdeal Cert.ReferenceIdeal.Gen Cert.ReferenceIdeal.Value

namespace Cert.Ref

/-- Four columns side by side. -/
theorem columns (A B C D : IVec S2x4x300x25x1 32) (b : Fin 2) (h : Fin 4) (s : Fin 300) (u : Fin 25) (k : Fin 4) :
    (concatenate S2x4x300x25x4 4 [⟨S2x4x300x25x1, A⟩, ⟨S2x4x300x25x1, B⟩, ⟨S2x4x300x25x1, C⟩, ⟨S2x4x300x25x1, D⟩]
      concatenates_S2x4x300x25x1_S2x4x300x25x1_S2x4x300x25x1_S2x4x300x25x1_S2x4x300x25x4_d4) (ix5 b h s u k)
      = (![A, B, C, D] : Fin 4 → IVec S2x4x300x25x1 32) k (ix5 b h s u 0) := by
  refine concatenate_ofFn_unit_apply (t := S2x4x300x25x4) (s₁ := S2x4x300x25x1) 4 (![A, B, C, D] : Fin 4 → IVec S2x4x300x25x1 32) _ rfl rfl (ix5 b h s u k) k rfl (ix5 b h s u 0) fun q hq => ?_
  match q, hq with
  | ⟨0, _⟩, _ => rfl
  | ⟨1, _⟩, _ => rfl
  | ⟨2, _⟩, _ => rfl
  | ⟨3, _⟩, _ => rfl
  | ⟨4, _⟩, hq => exact absurd rfl hq

theorem first (A B C D : IVec S2x4x300x25x1 32) (b : Fin 2) (h : Fin 4) (s : Fin 300) (u : Fin 25) (v : BitVec 32) (hv : A (ix5 b h s u 0) = v) :
    (concatenate S2x4x300x25x4 4 [⟨S2x4x300x25x1, A⟩, ⟨S2x4x300x25x1, B⟩, ⟨S2x4x300x25x1, C⟩, ⟨S2x4x300x25x1, D⟩]
      concatenates_S2x4x300x25x1_S2x4x300x25x1_S2x4x300x25x1_S2x4x300x25x1_S2x4x300x25x4_d4) (ix5 b h s u 0) = v := (columns A B C D b h s u 0).trans hv

theorem second (A B C D : IVec S2x4x300x25x1 32) (b : Fin 2) (h : Fin 4) (s : Fin 300) (u : Fin 25) (v : BitVec 32) (hv : B (ix5 b h s u 0) = v) :
    (concatenate S2x4x300x25x4 4 [⟨S2x4x300x25x1, A⟩, ⟨S2x4x300x25x1, B⟩, ⟨S2x4x300x25x1, C⟩, ⟨S2x4x300x25x1, D⟩]
      concatenates_S2x4x300x25x1_S2x4x300x25x1_S2x4x300x25x1_S2x4x300x25x1_S2x4x300x25x4_d4) (ix5 b h s u 1) = v := (columns A B C D b h s u 1).trans hv

theorem third (A B C D : IVec S2x4x300x25x1 32) (b : Fin 2) (h : Fin 4) (s : Fin 300) (u : Fin 25) (v : BitVec 32) (hv : C (ix5 b h s u 0) = v) :
    (concatenate S2x4x300x25x4 4 [⟨S2x4x300x25x1, A⟩, ⟨S2x4x300x25x1, B⟩, ⟨S2x4x300x25x1, C⟩, ⟨S2x4x300x25x1, D⟩]
      concatenates_S2x4x300x25x1_S2x4x300x25x1_S2x4x300x25x1_S2x4x300x25x1_S2x4x300x25x4_d4) (ix5 b h s u 2) = v := (columns A B C D b h s u 2).trans hv

theorem fourth (A B C D : IVec S2x4x300x25x1 32) (b : Fin 2) (h : Fin 4) (s : Fin 300) (u : Fin 25) (v : BitVec 32) (hv : D (ix5 b h s u 0) = v) :
    (concatenate S2x4x300x25x4 4 [⟨S2x4x300x25x1, A⟩, ⟨S2x4x300x25x1, B⟩, ⟨S2x4x300x25x1, C⟩, ⟨S2x4x300x25x1, D⟩]
      concatenates_S2x4x300x25x1_S2x4x300x25x1_S2x4x300x25x1_S2x4x300x25x1_S2x4x300x25x4_d4) (ix5 b h s u 3) = v := (columns A B C D b h s u 3).trans hv

theorem column0 (b : Fin 2) (h : Fin 4) (s : Fin 300) (u : Fin 25) (V : Valuation τ sig (Elt Ideal)) :
    (broadcastInDim S2x4x300x25x1 ![0, 1, 2, 3] bcast_S2x4x300x25_S2x4x300x25x1_0_1_2_3 (broadcastInDim S2x4x300x25 ![0, 1, 2, 3] bcast_S2x1x1x1_S2x4x300x25_0_1_2_3
      (select (cmpi .slt (res_main_v103 V) (broadcastInDim S2x1x1x1 ![] bcast_S_S2x1x1x1 (constantI S_ 32 0#32)))
        (addi (res_main_v103 V) (broadcastInDim S2x1x1x1 ![] bcast_S_S2x1x1x1 (constantI S_ 32 2#32))) (res_main_v103 V)))) (ix5 b h s u 0) = BitVec.ofNat 32 b := by
  have e : res_main_v103 V (ix4 b 0 0 0) = BitVec.ofNat 32 b := by
    unfold res_main_v103
    pointwise
  generalize res_main_v103 V = y at e
  pointwise
  exact wrap _ _ b (by omega) e

theorem column1 (b : Fin 2) (h : Fin 4) (s : Fin 300) (u : Fin 25) (V : Valuation τ sig (Elt Ideal)) :
    (broadcastInDim S2x4x300x25x1 ![0, 1, 2, 3] bcast_S2x4x300x25_S2x4x300x25x1_0_1_2_3 (broadcastInDim S2x4x300x25 ![0, 1, 2, 3] bcast_S1x4x1x1_S2x4x300x25_0_1_2_3
      (select (cmpi .slt (res_main_v105 V) (broadcastInDim S1x4x1x1 ![] bcast_S_S1x4x1x1 (constantI S_ 32 0#32)))
        (addi (res_main_v105 V) (broadcastInDim S1x4x1x1 ![] bcast_S_S1x4x1x1 (constantI S_ 32 4#32))) (res_main_v105 V)))) (ix5 b h s u 0) = BitVec.ofNat 32 h := by
  have e : res_main_v105 V (ix4 0 h 0 0) = BitVec.ofNat 32 h := by
    unfold res_main_v105
    pointwise
  generalize res_main_v105 V = y at e
  pointwise
  exact wrap _ _ h (by omega) e

theorem column2 (b : Fin 2) (h : Fin 4) (s : Fin 300) (u : Fin 25) (V : Valuation τ sig (Elt Ideal)) :
    (broadcastInDim S2x4x300x25x1 ![0, 1, 2, 3] bcast_S2x4x300x25_S2x4x300x25x1_0_1_2_3 (broadcastInDim S2x4x300x25 ![0, 1, 2, 3] bcast_S1x1x300x1_S2x4x300x25_0_1_2_3
      (select (cmpi .slt (res_main_v107 V) (broadcastInDim S1x1x300x1 ![] bcast_S_S1x1x300x1 (constantI S_ 32 0#32)))
        (addi (res_main_v107 V) (broadcastInDim S1x1x300x1 ![] bcast_S_S1x1x300x1 (constantI S_ 32 300#32))) (res_main_v107 V)))) (ix5 b h s u 0) = BitVec.ofNat 32 s := by
  have e : res_main_v107 V (ix4 0 0 s 0) = BitVec.ofNat 32 s := by
    unfold res_main_v107
    pointwise
  generalize res_main_v107 V = y at e
  pointwise
  exact wrap _ _ s (by omega) e

theorem column3 (y : IVec S2x4x300x25 32) (b : Fin 2) (h : Fin 4) (s : Fin 300) (u : Fin 25) (r : Fin 64) (e : y (ix4 b h s u) = BitVec.ofNat 32 r) :
    (broadcastInDim S2x4x300x25x1 ![0, 1, 2, 3] bcast_S2x4x300x25_S2x4x300x25x1_0_1_2_3
      (select (cmpi .slt y (broadcastInDim S2x4x300x25 ![] bcast_S_S2x4x300x25 (constantI S_ 32 0#32)))
        (addi y (broadcastInDim S2x4x300x25 ![] bcast_S_S2x4x300x25 (constantI S_ 32 64#32))) y)) (ix5 b h s u 0) = BitVec.ofNat 32 r := by
  pointwise
  exact wrap _ _ r (by omega) e

theorem signed (w : BitVec 32) (a : ℕ) (ha : a < 400) (h : w = BitVec.ofNat 32 a) : w.toInt = a := by
  rw [h, StableHlo.Predicate.toInt_ofNat_small _ (by omega)]

variable (I : IVec S2x4x300x25x4 32) (r : Fin 2 → Fin 4 → Fin 300 → Fin 25 → Fin 64)
variable (h0 : ∀ b h s u, I (ix5 b h s u 0) = BitVec.ofNat 32 (b : ℕ)) (h1 : ∀ b h s u, I (ix5 b h s u 1) = BitVec.ofNat 32 (h : ℕ))
variable (h2 : ∀ b h s u, I (ix5 b h s u 2) = BitVec.ofNat 32 (s : ℕ)) (h3 : ∀ b h s u, I (ix5 b h s u 3) = BitVec.ofNat 32 (r b h s u : ℕ))
include h0 h1 h2 h3

theorem goes (b' : Fin 2) (h' : Fin 4) (s' : Fin 300) (u : Fin 25) (e' : Fin 16) (b : Fin 2) (h : Fin 4) (s : Fin 300) (i : Fin 64) (e : Fin 16) :
    scatter_S2x4x300x64x16_S2x4x300x25x4_S2x4x300x25x16_4_0123_0123_4.resultIdx? (ix5 b' h' s' u e') I = some (ix5 b h s i e)
      ↔ b' = b ∧ h' = h ∧ s' = s ∧ r b' h' s' u = i ∧ e' = e := by
  rw [Cert.Gathers.lands, signed _ _ (by omega) (h0 b' h' s' u), signed _ _ (by omega) (h1 b' h' s' u), signed _ _ (by omega) (h2 b' h' s' u),
    signed _ _ (by omega) (h3 b' h' s' u)]
  simp only [Nat.cast_inj, Fin.val_inj]

theorem put (x : S2x4x300x64x16.Idx → EReal) (w : S2x4x300x25x16.Idx → EReal) (hr : ∀ b h s, Function.Injective (r b h s)) (b : Fin 2) (h : Fin 4) (s : Fin 300) (u : Fin 25) (e : Fin 16) :
    Host.scatter scatter_S2x4x300x64x16_S2x4x300x25x4_S2x4x300x25x16_4_0123_0123_4 (fun _ b => b) x I w (ix5 b h s (r b h s u) e) = w (ix5 b h s u e) := by
  refine scatter_set_hit _ x I w _ _ (fun k hk => ?_) (ix5 b h s u e) ((goes I r h0 h1 h2 h3 _ _ _ _ _ _ _ _ _ _).2 ⟨rfl, rfl, rfl, rfl, rfl⟩)
  rw [eq_ix5 k] at hk ⊢
  obtain ⟨hb, hh, hs, hu, he⟩ := (goes I r h0 h1 h2 h3 _ _ _ _ _ _ _ _ _ _).1 hk
  rw [hb, hh, hs, he]
  rw [hb, hh, hs] at hu
  rw [hr _ _ _ hu]

theorem kept (x : S2x4x300x64x16.Idx → EReal) (w : S2x4x300x25x16.Idx → EReal) (b : Fin 2) (h : Fin 4) (s : Fin 300) (i : Fin 64) (e : Fin 16) (hi : ∀ u, r b h s u ≠ i) :
    Host.scatter scatter_S2x4x300x64x16_S2x4x300x25x4_S2x4x300x25x16_4_0123_0123_4 (fun _ b => b) x I w (ix5 b h s i e) = x (ix5 b h s i e) := by
  refine scatter_set_miss _ x I w _ fun k hk => ?_
  rw [eq_ix5 k] at hk
  obtain ⟨hb, hh, hs, hu, he⟩ := (goes I r h0 h1 h2 h3 _ _ _ _ _ _ _ _ _ _).1 hk
  rw [hb, hh, hs] at hu
  exact hi _ hu

end Cert.Ref

end
-- ==== Proof.RefCtx.lean ====
/- The reference's attention: its context, projected, with the slab added. -/
module

public import proofs.«01_k».proof.Proof.RefScores
public import proofs.«01_k».proof.Proof.RefOps
public import proofs.«01_k».proof.Proof.RefScatter

@[expose] public section

noncomputable section

open Idealize.ShloMosaic Idealize.ShloMosaic.Routing Cert.Slab Cert.ReferenceIdeal Cert.ReferenceIdeal.Gen Cert.ReferenceIdeal.Value

namespace Cert.Ref

variable (V : Valuation τ sig (Elt Ideal)) (n : Fin 2 → Fin 64 → Fin 5 → Fin 10)

variable (hn : ∀ b t e, V (Proc.devRef .tc main_arg1) (ix3 b t e) = BitVec.ofNat 32 (n b t e))

abbrev qs (b : Fin 2) (s : Fin 300) : Mat := proj (args V n).W.q ((args V n).enc b s)
abbrev ks (b : Fin 2) (s : Fin 300) : Mat := proj (args V n).W.k ((args V n).enc b s)
abbrev vs (b : Fin 2) (s : Fin 300) : Mat := proj (args V n).W.v ((args V n).enc b s)

include hn

theorem rowOf (b : Fin 2) (h : Fin 4) (s : Fin 300) (u : Fin 25) : res_main_call0_v4 V (ix5 b h s u 0) = BitVec.ofNat 32 (best V n b h s u) := by
  refine row_at (res_main_v80 V) _ _ (by omega) ?_
  refine Eq.trans ?_ (best_at V n hn b h s u)
  unfold res_main_v80
  generalize res_main_indices V = y
  pointwise

theorem logit_at (b : Fin 2) (h : Fin 4) (s : Fin 300) (u : Fin 25) (j : Fin 64) :
    res_main_v84 V (ix5 b h s u j) = logit (qs V n b s) (ks V n b s) h (best V n b h s u) j := by
  unfold res_main_v84
  refine (scaled _ _ b h s u j).trans ?_
  refine congrArg (fun a : EReal => a * quarter) (Finset.sum_congr rfl fun e _ => congrArg₂ (fun a b : EReal => a * b) ?_ (k_at V n hn b h s j e))
  exact (picked _ (best V n) (rowOf V n hn) (res_main_v58 V) _ b h s u e).trans (q_at V n hn b h s _ e)

theorem ex_at (b : Fin 2) (h : Fin 4) (s : Fin 300) (u : Fin 25) (j : Fin 64) :
    res_main_v96 V (ix5 b h s u j) = ex (qs V n b s) (ks V n b s) h (best V n b h s u) j := by
  unfold res_main_v96
  refine (shifted _ _ b h s u j).trans ?_
  rw [greatest64, ninf, max_eq_right bot_le]
  have e : (fun j => res_main_v84 V (ix5 b h s u j)) = fun j => logit (qs V n b s) (ks V n b s) h (best V n b h s u) j :=
    funext fun j => logit_at V n hn b h s u j
  exact congrArg₂ (fun a c : EReal => Ideal.exp (a - c)) (logit_at V n hn b h s u j) (congrArg (fun L : Fin 64 → EReal => Finset.univ.fold max ⊥ L) e)

/-- The mixtures of the rows the reference keeps. -/
theorem mix_at (b : Fin 2) (h : Fin 4) (s : Fin 300) (u : Fin 25) (e : Fin 16) :
    (Host.dotGeneral (F := Ideal) (φ₁ := .f32) (φ₂ := .f32) dot_S2x4x300x25x64_S2x4x300x64x16_S2x4x300x25x16_4_3_3_4_012_012 none
      (Host.divf (res_main_v96 V) (broadcastInDim S2x4x300x25x64 ![0, 1, 2, 3, 4] bcast_S2x4x300x25x1_S2x4x300x25x64_0_1_2_3_4
        (broadcastInDim S2x4x300x25x1 ![0, 1, 2, 3] bcast_S2x4x300x25_S2x4x300x25x1_0_1_2_3
          (Host.reduceAdd (res_main_v96 V) (constant S_ .f32 0x00000000#32) reducesTo_S2x4x300x25x64_S2x4x300x25_d4 h_S_)))) (res_main_v66 V)) (ix5 b h s u e)
      = mix (qs V n b s) (ks V n b s) (vs V n b s) h (best V n b h s u) (lane h e) := by
  refine (blended _ (res_main_v66 V) b h s u e).trans ?_
  refine Finset.sum_congr rfl fun j _ => congrArg₂ (fun a b : EReal => a * b) ?_ (v_at V n hn b h s j e)
  refine (weighed (res_main_v96 V) _ b h s u j).trans ?_
  rw [total64]
  exact congrArg₂ Ideal.div (ex_at V n hn b h s u j) (Finset.sum_congr rfl fun j _ => ex_at V n hn b h s u j)

theorem mean_at (b : Fin 2) (h : Fin 4) (s : Fin 300) (i : Fin 64) (e : Fin 16) :
    (broadcastInDim S2x4x300x64x16 ![0, 1, 2, 3, 4] bcast_S2x4x300x1x16_S2x4x300x64x16_0_1_2_3_4 (Host.divf (F := Ideal) (φ := .f32)
      (broadcastInDim S2x4x300x1x16 ![0, 1, 2, 4] bcast_S2x4x300x16_S2x4x300x1x16_0_1_2_4
        (Host.reduceAdd (res_main_v66 V) (constant S_ .f32 0x00000000#32) reducesTo_S2x4x300x64x16_S2x4x300x16_d3 h_S_))
      (broadcastInDim S2x4x300x1x16 ![] bcast_S_S2x4x300x1x16 (constant S_ .f32 0x42800000#32)))) (ix5 b h s i e)
      = mean (vs V n b s) (lane h e) := by
  refine (spread _ b h s i e).trans ?_
  rw [totalRows]
  exact congrArg (fun a : EReal => Ideal.div a k64) (Finset.sum_congr rfl fun j _ => v_at V n hn b h s j e)

omit hn

theorem headOf_lane (h : Fin 4) (e : Fin 16) : headOf (lane h e) = h := Fin.ext (show ((h : ℕ) * 16 + e) / 16 = h by omega)

/-- The kept rows' mixtures set over the means: the context. -/
theorem over (I : IVec S2x4x300x25x4 32) (h0 : ∀ b h s u, I (ix5 b h s u 0) = BitVec.ofNat 32 ((b : Fin 2) : ℕ)) (h1 : ∀ b h s u, I (ix5 b h s u 1) = BitVec.ofNat 32 ((h : Fin 4) : ℕ))
    (h2 : ∀ b h s u, I (ix5 b h s u 2) = BitVec.ofNat 32 ((s : Fin 300) : ℕ)) (h3 : ∀ b h s u, I (ix5 b h s u 3) = BitVec.ofNat 32 (best V n b h s u))
    (x : S2x4x300x64x16.Idx → EReal) (w : S2x4x300x25x16.Idx → EReal)
    (hx : ∀ b h s i e, x (ix5 b h s i e) = mean (vs V n b s) (lane h e))
    (hw : ∀ b h s u e, w (ix5 b h s u e) = mix (qs V n b s) (ks V n b s) (vs V n b s) h (best V n b h s u) (lane h e))
    (b : Fin 2) (h : Fin 4) (s : Fin 300) (i : Fin 64) (e : Fin 16) :
    Host.scatter scatter_S2x4x300x64x16_S2x4x300x25x4_S2x4x300x25x16_4_0123_0123_4 (fun _ b => b) x I w (ix5 b h s i e)
      = ctx ix (qs V n b s) (ks V n b s) (vs V n b s) i (lane h e) := by
  unfold ctx
  rw [headOf_lane]
  by_cases hi : rank (meas ix (qs V n b s) (ks V n b s) h) i < 25
  · rw [if_pos hi]
    obtain ⟨u, rfl⟩ := TopK.exists_top _ i hi
    exact (put I (best V n) h0 h1 h2 h3 x w (fun b h s => TopK.top_inj _) b h s u e).trans (hw b h s u e)
  · rw [if_neg hi]
    exact (kept I (best V n) h0 h1 h2 h3 x w b h s i e fun u hu => hi (hu ▸ TopK.top_rank _ u)).trans (hx b h s i e)

/-- A lane is the lane of its head that its place in the head says. -/
theorem lane_split (k : Fin 64) : lane (headOf k) ⟨(k : ℕ) % 16, Nat.mod_lt _ (by decide)⟩ = k := Fin.ext (show (k : ℕ) / 16 * 16 + (k : ℕ) % 16 = k by omega)

include hn

theorem attended (b : Fin 2) (s : Fin 300) (t c : Fin 64) : res_main_v144 V (ix4 b s t c)
    = (∑ k : Fin 64, ctx ix (qs V n b s) (ks V n b s) (vs V n b s) t k * (args V n).W.o c k) + (args V n).W.bo c + (args V n).enc b s t c := by
  unfold res_main_v144
  refine (projected _ (V (Proc.devRef .tc main_arg5)) (V (Proc.devRef .tc main_arg6)) (res_main_v54 V) b s t c).trans ?_
  refine congrArg₂ (fun x y : EReal => x + (args V n).W.bo c + y) (Finset.sum_congr rfl fun k _ => congrArg (fun x : EReal => x * (args V n).W.o c k) ?_) (enc_at V n hn b s t c)
  refine Eq.trans (over V n _ ?_ ?_ ?_ ?_ _ _ (mean_at V n hn) (mix_at V n hn) b (headOf k) s t _) ?_
  · exact fun b h s u => first _ _ _ _ b h s u _ (column0 b h s u V)
  · exact fun b h s u => second _ _ _ _ b h s u _ (column1 b h s u V)
  · exact fun b h s u => third _ _ _ _ b h s u _ (column2 b h s u V)
  · exact fun b h s u => fourth _ _ _ _ b h s u _ (column3 (res_main_indices V) b h s u (best V n b h s u) (best_at V n hn b h s u))
  rw [lane_split]

end Cert.Ref

end
-- ==== Proof.RefFeed.lean ====
/- The reference's normalisations and its feed-forward layer, on any arrays. -/
module

public import proofs.«01_k».proof.Proof.RefEnc

@[expose] public section

noncomputable section

open Idealize.ShloMosaic Idealize.ShloMosaic.Routing Cert.Slab Cert.ReferenceIdeal Cert.ReferenceIdeal.Gen Cert.ReferenceIdeal.Value

namespace Cert.Ref

theorem lanes_total (X : FVec Ideal S2x300x64x64 .f32) (b : Fin 2) (s : Fin 300) (t : Fin 64) :
    (Host.reduceAdd X (constant S_ .f32 0x00000000#32) reducesTo_S2x300x64x64_S2x300x64_d3 h_S_) (ix3 b s t) = (∑ k : Fin 64, X (ix4 b s t k) : EReal) := by
  pointwise

theorem averaged (S : FVec Ideal S2x300x64 .f32) (b : Fin 2) (s : Fin 300) (t : Fin 64) :
    (Host.divf (broadcastInDim S2x300x64x1 ![0, 1, 2] bcast_S2x300x64_S2x300x64x1_0_1_2 S)
      (broadcastInDim S2x300x64x1 ![] bcast_S_S2x300x64x1 (constant S_ .f32 0x42800000#32))) (ix4 b s t 0) = Ideal.div (S (ix3 b s t)) k64 := by
  pointwise
  rfl

theorem centred (X : FVec Ideal S2x300x64x64 .f32) (M : FVec Ideal S2x300x64x1 .f32) (b : Fin 2) (s : Fin 300) (t k : Fin 64) :
    (subf X (broadcastInDim S2x300x64x64 ![0, 1, 2, 3] bcast_S2x300x64x1_S2x300x64x64_0_1_2_3 M)) (ix4 b s t k) = (X (ix4 b s t k) : EReal) - M (ix4 b s t 0) := by
  pointwise

theorem rooted (D : FVec Ideal S2x300x64x1 .f32) (i : S2x300x64x1.Idx) :
    (Host.sqrt (addf D (broadcastInDim S2x300x64x1 ![] bcast_S_S2x300x64x1 (constant S_ .f32 0x3727C5AC#32)))) i = Ideal.sqrt ((D i : EReal) + eps) := rfl

theorem rescaled (Y : FVec Ideal S2x300x64x64 .f32) (R : FVec Ideal S2x300x64x1 .f32) (G B : FVec Ideal S64 .f32) (b : Fin 2) (s : Fin 300) (t c : Fin 64) :
    (addf (mulf (Host.divf Y (broadcastInDim S2x300x64x64 ![0, 1, 2, 3] bcast_S2x300x64x1_S2x300x64x64_0_1_2_3 R))
      (broadcastInDim S2x300x64x64 ![0, 1, 2, 3] bcast_S1x1x1x64_S2x300x64x64_0_1_2_3 (broadcastInDim S1x1x1x64 ![3] bcast_S64_S1x1x1x64_3 G)))
      (broadcastInDim S2x300x64x64 ![0, 1, 2, 3] bcast_S1x1x1x64_S2x300x64x64_0_1_2_3 (broadcastInDim S1x1x1x64 ![3] bcast_S64_S1x1x1x64_3 B))) (ix4 b s t c)
      = Ideal.div (Y (ix4 b s t c)) (R (ix4 b s t 0)) * (G (ix1 c) : EReal) + B (ix1 c) := by
  pointwise

theorem squares (Y : FVec Ideal S2x300x64x64 .f32) (i : S2x300x64x64.Idx) : (mulf Y Y) i = (Y i : EReal) * Y i := rfl

/-- One normalisation, from the rows it is given. -/
theorem normed (X D : FVec Ideal S2x300x64x64 .f32) (M : FVec Ideal S2x300x64x1 .f32) (G B : FVec Ideal S64 .f32) (x : Fin 2 → Fin 300 → Fin 64 → Fin 64 → EReal)
    (hx : ∀ b s t k, X (ix4 b s t k) = x b s t k) (hM : ∀ b s t, M (ix4 b s t 0) = Ideal.div (∑ k : Fin 64, x b s t k) k64)
    (hD : ∀ b s t k, D (ix4 b s t k) = x b s t k - Ideal.div (∑ k : Fin 64, x b s t k) k64) (b : Fin 2) (s : Fin 300) (t c : Fin 64) :
    (addf (mulf (Host.divf (subf X (broadcastInDim S2x300x64x64 ![0, 1, 2, 3] bcast_S2x300x64x1_S2x300x64x64_0_1_2_3 M))
      (broadcastInDim S2x300x64x64 ![0, 1, 2, 3] bcast_S2x300x64x1_S2x300x64x64_0_1_2_3 (Host.sqrt (addf
        (Host.divf (broadcastInDim S2x300x64x1 ![0, 1, 2] bcast_S2x300x64_S2x300x64x1_0_1_2 (Host.reduceAdd (mulf D D) (constant S_ .f32 0x00000000#32) reducesTo_S2x300x64x64_S2x300x64_d3 h_S_))
          (broadcastInDim S2x300x64x1 ![] bcast_S_S2x300x64x1 (constant S_ .f32 0x42800000#32)))
        (broadcastInDim S2x300x64x1 ![] bcast_S_S2x300x64x1 (constant S_ .f32 0x3727C5AC#32))))))
      (broadcastInDim S2x300x64x64 ![0, 1, 2, 3] bcast_S1x1x1x64_S2x300x64x64_0_1_2_3 (broadcastInDim S1x1x1x64 ![3] bcast_S64_S1x1x1x64_3 G)))
      (broadcastInDim S2x300x64x64 ![0, 1, 2, 3] bcast_S1x1x1x64_S2x300x64x64_0_1_2_3 (broadcastInDim S1x1x1x64 ![3] bcast_S64_S1x1x1x64_3 B))) (ix4 b s t c)
      = norm (x b s t) (fun k => G (ix1 k)) (fun k => B (ix1 k)) c := by
  refine (rescaled _ _ G B b s t c).trans ?_
  rw [centred, rooted, averaged, lanes_total, hx, hM]
  simp only [squares, hD]
  rfl

theorem widened (X : FVec Ideal S2x300x64x64 .f32) (W : FVec Ideal S256x64 .f32) (B : FVec Ideal S256 .f32) (b : Fin 2) (s : Fin 300) (t : Fin 64) (f : Fin 256) :
    (maximumf (addf (Host.dotGeneral (F := Ideal) (φ₁ := .f32) (φ₂ := .f32) dot_S2x300x64x64_S64x256_S2x300x64x256_3_0_012_1_n_n none X (transpose S64x256 [1, 0] W transposes_S256x64_S64x256_1_0))
      (broadcastInDim S2x300x64x256 ![0, 1, 2, 3] bcast_S1x1x1x256_S2x300x64x256_0_1_2_3 (broadcastInDim S1x1x1x256 ![3] bcast_S256_S1x1x1x256_3 B)))
      (broadcastInDim S2x300x64x256 ![] bcast_S_S2x300x64x256 (constant S_ .f32 0x00000000#32))) (ix4 b s t f)
      = max ((∑ k : Fin 64, X (ix4 b s t k) * W (ix2 f k) : EReal) + B (ix1 f)) (Ideal.ofBits .f32 0#32) := by
  pointwise

theorem narrowed (H : FVec Ideal S2x300x64x256 .f32) (W : FVec Ideal S64x256 .f32) (B : FVec Ideal S64 .f32) (X : FVec Ideal S2x300x64x64 .f32) (b : Fin 2) (s : Fin 300) (t c : Fin 64) :
    (addf (addf (Host.dotGeneral (F := Ideal) (φ₁ := .f32) (φ₂ := .f32) dot_S2x300x64x256_S256x64_S2x300x64x64_3_0_012_1_n_n none H (transpose S256x64 [1, 0] W transposes_S64x256_S256x64_1_0))
      (broadcastInDim S2x300x64x64 ![0, 1, 2, 3] bcast_S1x1x1x64_S2x300x64x64_0_1_2_3 (broadcastInDim S1x1x1x64 ![3] bcast_S64_S1x1x1x64_3 B))) X) (ix4 b s t c)
      = (∑ f : Fin 256, H (ix4 b s t f) * W (ix2 c f) : EReal) + B (ix1 c) + X (ix4 b s t c) := by
  pointwise

theorem nought : Ideal.ofBits .f32 0#32 = 0 := by simp [Ideal.ofBits, Ideal.ieee]

end Cert.Ref

end
-- ==== Proof.RefOut.lean ====
/- The reference's result: the whole layer on every slab. -/
module

public import proofs.«01_k».proof.Proof.RefCtx
public import proofs.«01_k».proof.Proof.RefFeed

@[expose] public section

noncomputable section

open Idealize.ShloMosaic Idealize.ShloMosaic.Routing Cert.Slab Cert.ReferenceIdeal Cert.ReferenceIdeal.Gen Cert.ReferenceIdeal.Value

namespace Cert.Ref

variable (V : Valuation τ sig (Elt Ideal)) (n : Fin 2 → Fin 64 → Fin 5 → Fin 10)

variable (hn : ∀ b t e, V (Proc.devRef .tc main_arg1) (ix3 b t e) = BitVec.ofNat 32 (n b t e))

/-- What the first normalisation is given. -/
def pre (b : Fin 2) (s : Fin 300) : Mat := fun t c =>
  (∑ k : Fin 64, ctx ix (qs V n b s) (ks V n b s) (vs V n b s) t k * (args V n).W.o c k) + (args V n).W.bo c + (args V n).enc b s t c

/-- What the second normalisation is given. -/
def post (b : Fin 2) (s : Fin 300) : Mat := fun t c =>
  feed (args V n).W.w1 (args V n).W.b1 (args V n).W.w2 (args V n).W.b2 (mid ix (args V n).W ((args V n).enc b s) t) c + mid ix (args V n).W ((args V n).enc b s) t c

include hn

theorem pre_at (b : Fin 2) (s : Fin 300) (t c : Fin 64) : res_main_v144 V (ix4 b s t c) = pre V n b s t c := attended V n hn b s t c

theorem mean1_at (b : Fin 2) (s : Fin 300) (t : Fin 64) : res_main_v148 V (ix4 b s t 0) = Ideal.div (∑ k : Fin 64, pre V n b s t k) k64 := by
  unfold res_main_v148
  refine (averaged _ b s t).trans ?_
  rw [lanes_total]
  exact congrArg (fun a : EReal => Ideal.div a k64) (Finset.sum_congr rfl fun k _ => pre_at V n hn b s t k)

theorem dev1_at (b : Fin 2) (s : Fin 300) (t k : Fin 64) : res_main_v150 V (ix4 b s t k) = pre V n b s t k - Ideal.div (∑ k : Fin 64, pre V n b s t k) k64 := by
  unfold res_main_v150
  refine (centred _ _ b s t k).trans ?_
  exact congrArg₂ (fun a c : EReal => a - c) (pre_at V n hn b s t k) (mean1_at V n hn b s t)

theorem mid_at (b : Fin 2) (s : Fin 300) (t c : Fin 64) : res_main_v168 V (ix4 b s t c) = mid ix (args V n).W ((args V n).enc b s) t c := by
  unfold res_main_v168
  exact normed (res_main_v144 V) (res_main_v150 V) (res_main_v148 V) (V (Proc.devRef .tc main_arg7)) (V (Proc.devRef .tc main_arg8)) (pre V n)
    (pre_at V n hn) (mean1_at V n hn) (dev1_at V n hn) b s t c

theorem post_at (b : Fin 2) (s : Fin 300) (t c : Fin 64) : res_main_v181 V (ix4 b s t c) = post V n b s t c := by
  unfold res_main_v181
  refine (narrowed _ (V (Proc.devRef .tc main_arg13)) (V (Proc.devRef .tc main_arg14)) (res_main_v168 V) b s t c).trans ?_
  refine congrArg₂ (fun x y : EReal => x + (args V n).W.b2 c + y) (Finset.sum_congr rfl fun f _ => congrArg (fun x : EReal => x * (args V n).W.w2 c f) ?_) (mid_at V n hn b s t c)
  refine (widened (res_main_v168 V) (V (Proc.devRef .tc main_arg11)) (V (Proc.devRef .tc main_arg12)) b s t f).trans ?_
  rw [nought]
  exact congrArg (fun x : EReal => max (x + (args V n).W.b1 f) 0) (Finset.sum_congr rfl fun k _ => congrArg (fun x : EReal => x * (args V n).W.w1 f k) (mid_at V n hn b s t k))

theorem mean2_at (b : Fin 2) (s : Fin 300) (t : Fin 64) : res_main_v185 V (ix4 b s t 0) = Ideal.div (∑ k : Fin 64, post V n b s t k) k64 := by
  unfold res_main_v185
  refine (averaged _ b s t).trans ?_
  rw [lanes_total]
  exact congrArg (fun a : EReal => Ideal.div a k64) (Finset.sum_congr rfl fun k _ => post_at V n hn b s t k)

theorem dev2_at (b : Fin 2) (s : Fin 300) (t k : Fin 64) : res_main_v187 V (ix4 b s t k) = post V n b s t k - Ideal.div (∑ k : Fin 64, post V n b s t k) k64 := by
  unfold res_main_v187
  refine (centred _ _ b s t k).trans ?_
  exact congrArg₂ (fun a c : EReal => a - c) (post_at V n hn b s t k) (mean2_at V n hn b s t)

/-- The reference's result, as its run states it. -/
abbrev final : FVec Ideal S2x300x64x64 .f32 :=
  addf (mulf (Host.divf (subf (res_main_v181 V) (broadcastInDim S2x300x64x64 ![0, 1, 2, 3] bcast_S2x300x64x1_S2x300x64x64_0_1_2_3 (res_main_v185 V)))
      (broadcastInDim S2x300x64x64 ![0, 1, 2, 3] bcast_S2x300x64x1_S2x300x64x64_0_1_2_3 (Host.sqrt (addf
        (Host.divf (broadcastInDim S2x300x64x1 ![0, 1, 2] bcast_S2x300x64_S2x300x64x1_0_1_2
            (Host.reduceAdd (mulf (res_main_v187 V) (res_main_v187 V)) (constant S_ .f32 0x00000000#32) reducesTo_S2x300x64x64_S2x300x64_d3 h_S_))
          (broadcastInDim S2x300x64x1 ![] bcast_S_S2x300x64x1 (constant S_ .f32 0x42800000#32)))
        (broadcastInDim S2x300x64x1 ![] bcast_S_S2x300x64x1 (constant S_ .f32 0x3727C5AC#32))))))
      (broadcastInDim S2x300x64x64 ![0, 1, 2, 3] bcast_S1x1x1x64_S2x300x64x64_0_1_2_3 (broadcastInDim S1x1x1x64 ![3] bcast_S64_S1x1x1x64_3 (V (Proc.devRef .tc main_arg9)))))
    (broadcastInDim S2x300x64x64 ![0, 1, 2, 3] bcast_S1x1x1x64_S2x300x64x64_0_1_2_3 (broadcastInDim S1x1x1x64 ![3] bcast_S64_S1x1x1x64_3 (V (Proc.devRef .tc main_arg10))))

theorem final_at (b : Fin 2) (s : Fin 300) (t c : Fin 64) : final V (ix4 b s t c) = (args V n).out b s t c :=
  normed (res_main_v181 V) (res_main_v187 V) (res_main_v185 V) (V (Proc.devRef .tc main_arg9)) (V (Proc.devRef .tc main_arg10)) (post V n)
    (post_at V n hn) (mean2_at V n hn) (dev2_at V n hn) b s t c

end Cert.Ref

end
-- ==== Proof.Agree.lean ====
/- The two programs on the same arguments: what the precondition gives, and the equality of their results. -/
module

public import proofs.«01_k».proof.Defs
public import proofs.«01_k».proof.Proof.Gen.Pre_valid
public import proofs.«01_k».proof.Proof.Pre
public import proofs.«01_k».proof.Proof.KernelValue
public import proofs.«01_k».proof.Proof.RefOut

@[expose] public section

noncomputable section

open Idealize.ShloMosaic Idealize.ShloMosaic.TcCoe Idealize.ShloMosaic.StableHlo Idealize.SL.Sem Cert.Slab

namespace Cert.Agree

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- A time index below ten, as a number. -/
theorem digit (w : BitVec 32) (h : w.toNat < 10) : w = BitVec.ofNat 32 ((⟨w.toNat, h⟩ : Fin 10) : ℕ) := by simp

theorem args_eq (n : Fin 2 → Fin 64 → Fin 5 → Fin 10)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.Ref.args (launchContents m' c) n = Cert.KernelValue.args m c n := by
  obtain ⟨h0, h1, h2, h3, h4, h5, h6, h7, h8, h9, h10, h11, h12, h13, h14, h15, h16, h17, h18, h19⟩ := h
  unfold Cert.Ref.args Cert.KernelValue.args
  congr 1
  · exact funext fun b => funext fun s => funext fun t => funext fun k => congrFun h0 (ix4 b s t k)
  · refine Cert.KernelValue.weights_ext ?_ ?_ ?_ ?_ ?_ ?_ ?_ ?_ ?_ ?_ ?_ ?_ ?_
    · exact funext fun r => funext fun k => congrFun h2 (ix2 r k)
    · exact funext fun r => funext fun k => congrFun h3 (ix2 r k)
    · exact funext fun r => funext fun k => congrFun h4 (ix2 r k)
    · exact funext fun r => funext fun k => congrFun h5 (ix2 r k)
    · exact funext fun k => congrFun h6 (ix1 k)
    · exact funext fun k => congrFun h7 (ix1 k)
    · exact funext fun k => congrFun h8 (ix1 k)
    · exact funext fun k => congrFun h9 (ix1 k)
    · exact funext fun k => congrFun h10 (ix1 k)
    · exact funext fun r => funext fun k => congrFun h11 (ix2 r k)
    · exact funext fun k => congrFun h12 (ix1 k)
    · exact funext fun r => funext fun k => congrFun h13 (ix2 r k)
    · exact funext fun k => congrFun h14 (ix1 k)
  · exact funext fun r => funext fun k => congrFun h15 (ix2 r k)
  · exact funext fun r => funext fun k => congrFun h16 (ix2 r k)
  · exact funext fun r => funext fun k => congrFun h17 (ix2 r k)
  · exact funext fun r => funext fun k => congrFun h18 (ix2 r k)
  · exact funext fun r => funext fun k => congrFun h19 (ix2 r k)

/-- Everything the precondition gives on one device. -/
theorem given (h : Cert.Pre_KernelIdeal_valid (hPre_valid := Cert.Pre_valid.Gen.facts) m) :
    ∃ n : Fin 2 → Fin 64 → Fin 5 → Fin 10,
      (∀ b t e, m ((c : Thread Cert.KernelIdeal.nD Cert.KernelIdeal.τ).loc Cert.KernelIdeal.main_arg1) (ix3 b t e) = BitVec.ofNat 32 (n b t e)) ∧ (Cert.KernelValue.args m c n).Finite := by
  obtain ⟨h1, h0, h2, h3, h15, h16, h17, h18, h19⟩ := Cert.Pre.decode (h c)
  exact ⟨fun b t e => ⟨_, h1 (ix3 b t e)⟩, fun b t e => digit _ (h1 (ix3 b t e)),
    { x := fun b s t k => h0 (ix4 b s t k)
      q := fun r k => h2 (ix2 r k)
      k := fun r k => h3 (ix2 r k)
      T1 := fun r k => h15 (ix2 r k)
      T2 := fun r k => h16 (ix2 r k)
      T3 := fun r k => h17 (ix2 r k)
      T4 := fun r k => h18 (ix2 r k)
      T5 := fun r k => h19 (ix2 r k) }⟩

/-- The reference's result is the kernel's. -/
theorem same (ρ : Dev Cert.KernelIdeal.nD → PrngReg) (h : Cert.Pre_KernelIdeal_valid (hPre_valid := Cert.Pre_valid.Gen.facts) m)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) :
    Cert.Ref.final (launchContents m' c) = Cert.KernelIdeal.Whole.W17 m ρ c (Proc.devRef .tc Cert.KernelIdeal.main_v43) := by
  obtain ⟨n, hn, hf⟩ := given m c h
  have hn' : ∀ b t u, launchContents m' c (Proc.devRef .tc Cert.ReferenceIdeal.main_arg1) (ix3 b t u) = BitVec.ofNat 32 (n b t u) := fun b t u =>
    (congrFun e.2.1 (ix3 b t u)).trans (hn b t u)
  funext i
  rw [eq_ix4 i]
  refine (Cert.Ref.final_at _ n hn' _ _ _ _).trans ?_
  rw [args_eq m m' c n e]
  exact (Cert.KernelValue.result m ρ c n hn hf _ _ _ _).symm

end Cert.Agree

end
-- ==== Proof.lean ====
/- The certificate assembled: the frames of the three programs, the idealization, and the equality of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelRun
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelIdealRun
public import proofs.«01_k».proof.Proof.Gen.ReferenceIdeal
public import proofs.«01_k».proof.Proof.Gen.Pre_valid
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem Cert.Kernel

theorem frame_ri : Cert.quiescent_ReferenceIdeal (hReferenceIdeal := Cert.ReferenceIdeal.Gen.facts) := fun m ρ _ =>
  (θ_run Cert.ReferenceIdeal.defs _ _).mono (fun r h => ⟨fun c => (h c).2,
    Idealize.ShloMosaic.sem_eq_zero_of_no_sems (by decide) r.2⟩)
    (Cert.ReferenceIdeal.Value.run (F := Ideal) m ρ)

theorem equal : Cert.algebraic_KernelIdeal_ReferenceIdeal_pre_valid (hKernelIdeal := Cert.KernelIdeal.Gen.facts) (hReferenceIdeal := Cert.ReferenceIdeal.Gen.facts)
    (hPre_valid := Cert.Pre_valid.Gen.facts) := fun m ρ m' ρ' hp ha =>
  ⟨fun c => Cert.KernelIdeal.Whole.W17 m ρ c (Proc.devRef .tc Cert.KernelIdeal.main_v43),
    (θ_run Cert.KernelIdeal.defs _ _).mono (fun _ h c => ⟨h.1 c _ (Cert.KernelIdeal.Whole.mem_uc Cert.KernelIdeal.main_v43 (by decide)),
      (h.1 c _ (Cert.KernelIdeal.Whole.mem_uc Cert.KernelIdeal.main_arg0 (by decide))).trans (Cert.KernelIdeal.Whole.W17_main_arg0 m ρ c),
      (h.1 c _ (Cert.KernelIdeal.Whole.mem_uc Cert.KernelIdeal.main_arg1 (by decide))).trans (Cert.KernelIdeal.Whole.W17_main_arg1 m ρ c),
      (h.1 c _ (Cert.KernelIdeal.Whole.mem_uc Cert.KernelIdeal.main_arg2 (by decide))).trans (Cert.KernelIdeal.Whole.W17_main_arg2 m ρ c),
      (h.1 c _ (Cert.KernelIdeal.Whole.mem_uc Cert.KernelIdeal.main_arg3 (by decide))).trans (Cert.KernelIdeal.Whole.W17_main_arg3 m ρ c),
      (h.1 c _ (Cert.KernelIdeal.Whole.mem_uc Cert.KernelIdeal.main_arg4 (by decide))).trans (Cert.KernelIdeal.Whole.W17_main_arg4 m ρ c),
      (h.1 c _ (Cert.KernelIdeal.Whole.mem_uc Cert.KernelIdeal.main_arg5 (by decide))).trans (Cert.KernelIdeal.Whole.W17_main_arg5 m ρ c),
      (h.1 c _ (Cert.KernelIdeal.Whole.mem_uc Cert.KernelIdeal.main_arg6 (by decide))).trans (Cert.KernelIdeal.Whole.W17_main_arg6 m ρ c),
      (h.1 c _ (Cert.KernelIdeal.Whole.mem_uc Cert.KernelIdeal.main_arg7 (by decide))).trans (Cert.KernelIdeal.Whole.W17_main_arg7 m ρ c),
      (h.1 c _ (Cert.KernelIdeal.Whole.mem_uc Cert.KernelIdeal.main_arg8 (by decide))).trans (Cert.KernelIdeal.Whole.W17_main_arg8 m ρ c),
      (h.1 c _ (Cert.KernelIdeal.Whole.mem_uc Cert.KernelIdeal.main_arg9 (by decide))).trans (Cert.KernelIdeal.Whole.W17_main_arg9 m ρ c),
      (h.1 c _ (Cert.KernelIdeal.Whole.mem_uc Cert.KernelIdeal.main_arg10 (by decide))).trans (Cert.KernelIdeal.Whole.W17_main_arg10 m ρ c),
      (h.1 c _ (Cert.KernelIdeal.Whole.mem_uc Cert.KernelIdeal.main_arg11 (by decide))).trans (Cert.KernelIdeal.Whole.W17_main_arg11 m ρ c),
      (h.1 c _ (Cert.KernelIdeal.Whole.mem_uc Cert.KernelIdeal.main_arg12 (by decide))).trans (Cert.KernelIdeal.Whole.W17_main_arg12 m ρ c),
      (h.1 c _ (Cert.KernelIdeal.Whole.mem_uc Cert.KernelIdeal.main_arg13 (by decide))).trans (Cert.KernelIdeal.Whole.W17_main_arg13 m ρ c),
      (h.1 c _ (Cert.KernelIdeal.Whole.mem_uc Cert.KernelIdeal.main_arg14 (by decide))).trans (Cert.KernelIdeal.Whole.W17_main_arg14 m ρ c),
      (h.1 c _ (Cert.KernelIdeal.Whole.mem_uc Cert.KernelIdeal.main_arg15 (by decide))).trans (Cert.KernelIdeal.Whole.W17_main_arg15 m ρ c),
      (h.1 c _ (Cert.KernelIdeal.Whole.mem_uc Cert.KernelIdeal.main_arg16 (by decide))).trans (Cert.KernelIdeal.Whole.W17_main_arg16 m ρ c),
      (h.1 c _ (Cert.KernelIdeal.Whole.mem_uc Cert.KernelIdeal.main_arg17 (by decide))).trans (Cert.KernelIdeal.Whole.W17_main_arg17 m ρ c),
      (h.1 c _ (Cert.KernelIdeal.Whole.mem_uc Cert.KernelIdeal.main_arg18 (by decide))).trans (Cert.KernelIdeal.Whole.W17_main_arg18 m ρ c),
      (h.1 c _ (Cert.KernelIdeal.Whole.mem_uc Cert.KernelIdeal.main_arg19 (by decide))).trans (Cert.KernelIdeal.Whole.W17_main_arg19 m ρ c)⟩)
      (Cert.KernelIdeal.Whole.held_run m ρ),
    (θ_run Cert.ReferenceIdeal.defs _ _).mono (fun _ h c => ⟨(h c).1.trans (Cert.Agree.same m m' c ρ hp (ha c)), (h c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_valid.Gen.facts,
  fun m ρ _ => Cert.Kernel.Whole.frame m ρ, fun m ρ _ => Cert.KernelIdeal.Whole.frame m ρ, fun m ρ _ => Cert.KernelIdeal.Whole.frame m ρ,
  frame_ri, fun m ρ _ => frame_ri m ρ trivial, IdealRules.named_const.statement Cert.KernelIdeal.κ "mask" .f32 0xF149F2CA#32 ⊥ rfl, equal⟩

end Cert.Proof

end
